-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S10x2048x5120 : Shape := ⟨3, ![10, 2048, 5120]⟩
abbrev S5120 : Shape := ⟨1, ![5120]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S10x2048x5120 .bf16) (main_arg1 : FVec F S10x2048x5120 .bf16) (main_arg2 : FVec F S5120 .bf16) : IVec S_ 1 :=
  let main_v0 : FVec F S5120 .f32 := (extf .f32 · bitsLt_bf16_f32) main_arg2
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  let main_c : IVec S_ 1 := constantI S_ 1 1#1
  let main_v4 : IVec S_ 1 := (fun x v => Host.reduce IntOp.andi x v reducesTo_S5120_S_d0 h_S_) main_v3 main_c
  main_v4
-- ==== Kernel.lean ====
abbrev S10x2048x5120 : Shape := ⟨3, ![10, 2048, 5120]⟩
abbrev S5120 : Shape := ⟨1, ![5120]⟩
abbrev S20480x5120 : Shape := ⟨2, ![20480, 5120]⟩
abbrev S1x5120 : Shape := ⟨2, ![1, 5120]⟩
abbrev S10x40x2048 : Shape := ⟨3, ![10, 40, 2048]⟩
abbrev S256x5120 : Shape := ⟨2, ![256, 5120]⟩
abbrev S1x40x256 : Shape := ⟨3, ![1, 40, 256]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1x128 : Shape := ⟨2, ![1, 128]⟩
abbrev S256x128 : Shape := ⟨2, ![256, 128]⟩
abbrev S128x256 : Shape := ⟨2, ![128, 256]⟩
abbrev S40x256 : Shape := ⟨2, ![40, 256]⟩
abbrev S10x2048x40 : Shape := ⟨3, ![10, 2048, 40]⟩

abbrev nBuf : Space → Nat
  | .hbm => 13
  | .vmem => 11
  | .smem => 0
  | _ => 0

abbrev bufTy : (tb : Table) → Fin (tcTables nBuf tb) → BufTy
  | .hbm, ⟨0, _⟩ => ⟨S10x2048x5120, .bf16⟩
  | .hbm, ⟨1, _⟩ => ⟨S10x2048x5120, .bf16⟩
  | .hbm, ⟨2, _⟩ => ⟨S5120, .bf16⟩
  | .hbm, ⟨3, _⟩ => ⟨S20480x5120, .bf16⟩
  | .hbm, ⟨4, _⟩ => ⟨S20480x5120, .bf16⟩
  | .hbm, ⟨5, _⟩ => ⟨S5120, .f32⟩
  | .hbm, ⟨6, _⟩ => ⟨S1x5120, .f32⟩
  | .hbm, ⟨7, _⟩ => ⟨S20480x5120, .bf16⟩
  | .hbm, ⟨8, _⟩ => ⟨S20480x5120, .fp8e4m3⟩
  | .hbm, ⟨9, _⟩ => ⟨S10x40x2048, .f32⟩
  | .hbm, ⟨10, _⟩ => ⟨S10x2048x5120, .bf16⟩
  | .hbm, ⟨11, _⟩ => ⟨S10x2048x5120, .fp8e4m3⟩
  | .hbm, ⟨12, _⟩ => ⟨S10x2048x40, .f32⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S1x5120, .f32⟩
  | .local _ .vmem, ⟨5, _⟩ => ⟨S256x5120, .bf16⟩
  | .local _ .vmem, ⟨6, _⟩ => ⟨S256x5120, .bf16⟩
  | .local _ .vmem, ⟨7, _⟩ => ⟨S256x5120, .fp8e4m3⟩
  | .local _ .vmem, ⟨8, _⟩ => ⟨S256x5120, .fp8e4m3⟩
  | .local _ .vmem, ⟨9, _⟩ => ⟨S1x40x256, .f32⟩
  | .local _ .vmem, ⟨10, _⟩ => ⟨S1x40x256, .f32⟩
  | _, _ => ⟨S10x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x40x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S10x2048x5120 : Shape := ⟨3, ![10, 2048, 5120]⟩
abbrev S5120 : Shape := ⟨1, ![5120]⟩
abbrev S20480x5120 : Shape := ⟨2, ![20480, 5120]⟩
abbrev S1x5120 : Shape := ⟨2, ![1, 5120]⟩
abbrev S20480x40 : Shape := ⟨2, ![20480, 40]⟩
abbrev S20480 : Shape := ⟨1, ![20480]⟩
abbrev S20480x1 : Shape := ⟨2, ![20480, 1]⟩
abbrev S20480x40x128 : Shape := ⟨3, ![20480, 40, 128]⟩
abbrev S20480x40x1 : Shape := ⟨3, ![20480, 40, 1]⟩
abbrev S10x2048x40 : Shape := ⟨3, ![10, 2048, 40]⟩

abbrev nBuf : Space → Nat
  | .hbm => 12
  | .vmem => 6
  | .smem => 0
  | _ => 0

abbrev bufTy : (tb : Table) → Fin (tcTables nBuf tb) → BufTy
  | .hbm, ⟨0, _⟩ => ⟨S10x2048x5120, .bf16⟩
  | .hbm, ⟨1, _⟩ => ⟨S10x2048x5120, .bf16⟩
  | .hbm, ⟨2, _⟩ => ⟨S5120, .bf16⟩
  | .hbm, ⟨3, _⟩ => ⟨S20480x5120, .bf16⟩
  | .hbm, ⟨4, _⟩ => ⟨S20480x5120, .bf16⟩
  | .hbm, ⟨5, _⟩ => ⟨S1x5120, .bf16⟩
  | .hbm, ⟨6, _⟩ => ⟨S20480x5120, .bf16⟩
  | .hbm, ⟨7, _⟩ => ⟨S20480x5120, .fp8e4m3⟩
  | .hbm, ⟨8, _⟩ => ⟨S20480x40, .f32⟩
  | .hbm, ⟨9, _⟩ => ⟨S10x2048x5120, .bf16⟩
  | .hbm, ⟨10, _⟩ => ⟨S10x2048x5120, .fp8e4m3⟩
  | .hbm, ⟨11, _⟩ => ⟨S10x2048x40, .f32⟩
  | .local _ .vmem, ⟨0, _⟩ => ⟨S20480x5120, .bf16⟩
  | .local _ .vmem, ⟨1, _⟩ => ⟨S20480x5120, .bf16⟩
  | .local _ .vmem, ⟨2, _⟩ => ⟨S1x5120, .bf16⟩
  | .local _ .vmem, ⟨3, _⟩ => ⟨S20480x5120, .bf16⟩
  | .local _ .vmem, ⟨4, _⟩ => ⟨S20480x5120, .fp8e4m3⟩
  | .local _ .vmem, ⟨5, _⟩ => ⟨S20480x40, .f32⟩
  | _, _ => ⟨S10x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S20480x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20480x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20480x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20480x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Gamma.lean ====
/- The precondition on the gain, element by element. -/
module

public import proofs.«01_k».proof.Defs
public import proofs.«01_k».proof.Proof.Gen.Pre_gamma_finite
public import Idealize.ShloMosaic.Lib.ReduceAll
public import Idealize.ShloMosaic.Lib.Tactic
public import Idealize.ShloMosaic.Lib.Pointwise

@[expose] public section

set_option maxRecDepth 16384

noncomputable section

namespace Cert.Gamma

open Idealize.ShloMosaic Cert.Pre_gamma_finite

/-- Where the printed precondition is 1, no element of the gain exceeds the largest finite bfloat16 in absolute value. -/
theorem bound [Facts] (X R : FVec Ideal S10x2048x5120 .bf16) (G : FVec Ideal S5120 .bf16)
    (h : fn (F := Ideal) X R G = fun _ => 1#1) (j : Fin 5120) :
    max (G (ix1 j) : EReal) (-(G (ix1 j) : EReal)) ≤ Ideal.ofBits .f32 0x7F7F0000#32 := by
  have : Subsingleton S_.Idx := ⟨fun a b => funext fun i => i.elim0⟩
  have e := congrFun h (fun i => i.elim0)
  unfold fn at e
  exact (Ideal.cmp_ole_eq_one _ _).1 (Host.reduce_andi_all _ _ _ _ _ e (ix1 j))

end Cert.Gamma
end
-- ==== Proof.Tiles.lean ====
/- What the kernel's body computes on one 32-row, 128-column tile, and the lists of stores its unrolled body makes. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Blk

open Idealize.ShloMosaic Idealize.ShloMosaic.TcCoe Idealize.ShloMosaic.Tactic Cert.KernelIdeal Cert.KernelIdeal.Gen

variable {F : FTy → Type} [FloatOps F] [Named F]

/-- The rectangle of the tile of chunk `c` (32 rows) and group `k` (128 columns). -/
@[reducible] def tileRect (c k : ℕ) : Rect S256x5120 :=
  Rect.unit (s := S256x5120) ![32 * (c % 8), 128 * (k % 40)] S32x128.size
    (fun a => by fin_cases a <;> simp [S32x128, S256x5120] <;> omega)

/-- The columns of group `k` of the gain. -/
@[reducible] def gainRect (k : ℕ) : Rect S1x5120 :=
  Rect.unit (s := S1x5120) ![0, 128 * (k % 40)] S1x128.size
    (fun a => by fin_cases a <;> simp [S1x128, S1x5120] <;> omega)

/-- The sum of the two inputs on a tile. -/
def nrTile (x r : Vec F S32x128 .bf16) : FVec F S32x128 .bf16 :=
  truncf .bf16 (addf (extf .f32 (shapeCast S32x128 x shapeCasts_S32x128_S32x128) bitsLt_bf16_f32)
    (extf .f32 (shapeCast S32x128 r shapeCasts_S32x128_S32x128) bitsLt_bf16_f32)) bitsLt_bf16_f32

/-- One step of the sum of squares. -/
def accStep (x r : Vec F S32x128 .bf16) (acc : FVec F S32x128 .f32) : FVec F S32x128 .f32 :=
  addf acc (mulf (extf .f32 (nrTile x r) bitsLt_bf16_f32) (extf .f32 (nrTile x r) bitsLt_bf16_f32))

/-- The sums of squares, lane by lane, of the first `n` groups of a chunk. -/
def acc (X R : ℕ → Vec F S32x128 .bf16) (n : ℕ) : FVec F S32x128 .f32 :=
  Nat.rec (broadcast S32x128 (Scalar.ofBits .f32 0x00000000#32)) (fun k a => accStep (X k) (R k) a) n

/-- The inverse root mean square of a chunk's rows. -/
def rsq (a : FVec F S32x128 .f32) : FVec F S32x1 .f32 :=
  rsqrt (addf (mulf (shapeCast S32x1 (multiReduction .add [1] S32 a 0x00000000#32 reduces_S32x128_S32 (.inl rfl) rfl) shapeCasts_S32_S32x1)
    (broadcast S32x1 (Named.named κ "inv_d" 0x394CCCCD#32))) (broadcast S32x1 (Scalar.ofBits .f32 0x358637BD#32)))

/-- The normalised tile. -/
def yTile (rs : FVec F S32x1 .f32) (n : Vec F S32x128 .bf16) (g : Vec F S1x128 .f32) : FVec F S32x128 .f32 :=
  mulf (mulf (extf .f32 (shapeCast S32x128 n shapeCasts_S32x128_S32x128) bitsLt_bf16_f32) (broadcastTo S32x128 rs broadcasts_S32x1_S32x128))
    (broadcastTo S32x128 (shapeCast S1x128 g shapeCasts_S1x128_S1x128) broadcasts_S1x128_S32x128)

/-- The table of exponent fields. -/
def fields : IVec S32x256 32 := shli (iota .tc S32x256 32 [1] iota_S32x256_d1_w32) (broadcast S32x256 23#32)

/-- The scaled maximum of each row of a tile. -/
def vTile (y : FVec F S32x128 .f32) : FVec F S32x1 .f32 :=
  mulf (shapeCast S32x1 (multiReduction .maximumf [1] S32 (absf y) 0xFF800000#32 reduces_S32x128_S32 (.inl rfl) rfl) shapeCasts_S32_S32x1)
    (broadcast S32x1 (Scalar.ofBits .f32 0x3B124925#32))

/-- The exponent field of each row of a tile. -/
def eTile (y : FVec F S32x128 .f32) : IVec S32x1 32 :=
  shapeCast S32x1 (multiReductionI .maxsi [1] S32
    (select (cmpf .oge (broadcastTo S32x256 (vTile y) broadcasts_S32x1_S32x256) (bitcastToFloat .f32 fields)) fields (broadcast S32x256 0#32))
    2147483648#32 reduces_S32x256_S32 rfl) shapeCasts_S32_S32x1

/-- Whether the field is that of a normal number. -/
def normalTile (y : FVec F S32x128 .f32) : IVec S32x1 1 :=
  andi (cmpi .ne (eTile y) (broadcast S32x1 0#32)) (cmpi .ne (eTile y) (broadcast S32x1 2139095040#32))

/-- The codes of a tile. -/
def codeTile (y : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf y (broadcastTo S32x128 (bitcastToFloat .f32 (select (normalTile y) (subi (broadcast S32x1 2122317824#32) (eTile y)) (broadcast S32x1 1065353216#32)))
        broadcasts_S32x1_S32x128)))) bitsLt_fp8e4m3_f32

/-- The scales of a tile's rows. -/
def scaleTile (y : FVec F S32x128 .f32) : FVec F S32x1 .f32 :=
  bitcastToFloat .f32 (select (normalTile y) (addi (eTile y) (broadcast S32x1 8388608#32)) (broadcast S32x1 1065353216#32))

/-- The scales of the first `n` groups of a chunk, group `k`'s in lane `k`. -/
def scales (Y : ℕ → FVec F S32x128 .f32) (n : ℕ) : FVec F S32x128 .f32 :=
  Nat.rec (broadcast S32x128 (Scalar.ofBits .f32 0x00000000#32)) (fun k s =>
    select (cmpi .eq (iota .tc S32x128 32 [1] iota_S32x128_d1_w32) (broadcast S32x128 (BitVec.ofNat 32 k)))
      (broadcastTo S32x128 (shapeCast S32x1 (scaleTile (Y k)) shapeCasts_S32x1_S32x1) broadcasts_S32x1_S32x128) s) n

/-- The stores of a chunk's first `n` tiles, last first, tile `k` storing `T k`. -/
def chunkL {e : EltTy} (T : ℕ → Vec F S32x128 e) (c n : ℕ) : List (View.Piece (Elt F) S256x5120 e) :=
  Nat.rec [] (fun k L => ⟨tileRect c k, T k⟩ :: L) n

/-- The stores of the first `n` chunks, last first. -/
def allL {e : EltTy} (T : ℕ → ℕ → Vec F S32x128 e) (n : ℕ) : List (View.Piece (Elt F) S256x5120 e) :=
  Nat.rec [] (fun c L => chunkL (T c) c 40 ++ L) n

section body

variable (c : Dev nD) (i : grid0.Coords) (arg1 : Memref sig .tc .vmem S256x5120 .bf16) (harg1 : arg1.IsWhole)
  (arg2 : Memref sig .tc .vmem S256x5120 .bf16) (harg2 : arg2.IsWhole) (arg3 : Memref sig .tc .vmem S1x5120 .f32) (harg3 : arg3.IsWhole)
  (arg4 : Memref sig .tc .vmem S256x5120 .bf16) (harg4 : arg4.IsWhole) (arg5 : Memref sig .tc .vmem S256x5120 .fp8e4m3) (harg5 : arg5.IsWhole)
  (arg6 : Memref sig .tc .vmem S1x40x256 .f32) (harg6 : arg6.IsWhole)
  (x0 : Vec F S256x5120 .bf16) (x1 : Vec F S256x5120 .bf16) (x2 : Vec F S1x5120 .f32)

/-- The tile of the first input as the body loads it. -/
def ldX (k c : ℕ) : Vec F S32x128 .bf16 := View.readAt (Elt F) arg1.view (tileRect c k).toLoadRect (harg1.unread x0)
/-- The gain's columns as the body loads them. -/
def ldG (k : ℕ) : Vec F S1x128 .f32 := View.readAt (Elt F) arg3.view (gainRect k).toLoadRect (harg3.unread x2)

/-- The stores of the sums of chunks `0 … n-1`. -/
def nrL (n : ℕ) : List (View.Piece (Elt F) S256x5120 .bf16) :=
  allL (fun c k => nrTile (ldX arg1 harg1 x0 k c) (ldX arg2 harg2 x1 k c)) n

/-- The inverse root mean square of chunk `c`. -/
def rsC (c : ℕ) : FVec F S32x1 .f32 := rsq (acc (fun k => ldX arg1 harg1 x0 k c) (fun k => ldX arg2 harg2 x1 k c) 40)

/-- The normalised tile of chunk `c`, group `k`: the sum is loaded back from the stores made so far, those of the first
    `c + 2` chunks. -/
def yC (c k : ℕ) : FVec F S32x128 .f32 :=
  yTile (rsC arg1 harg1 arg2 harg2 x0 x1 c)
    (arg4.view.readCov (nrL arg1 harg1 arg2 harg2 x0 x1 (min 8 (c + 2))) (tileRect c k).toLoadRect) (ldG arg3 harg3 x2 k)

/-- The stores of the codes. -/
def codeL (n : ℕ) : List (View.Piece (Elt F) S256x5120 .fp8e4m3) :=
  allL (fun c k => codeTile (yC arg1 harg1 arg2 harg2 arg3 harg3 arg4 x0 x1 x2 c k)) n

/-- The scales of chunk `c`. -/
def scC (c : ℕ) : FVec F S32x128 .f32 := scales (yC arg1 harg1 arg2 harg2 arg3 harg3 arg4 x0 x1 x2 c) 40

set_option maxHeartbeats 4000000 in
/-- The body's stores into the first result are the list above. -/
theorem run3 : (kernelRun0_A c i arg1 harg1 arg2 harg2 arg3 harg3 arg4 harg4 arg5 harg5 arg6 harg6 x0 x1 x2).1
    = nrL arg1 harg1 arg2 harg2 x0 x1 8 := by
  sl_kernel_rfl

set_option maxHeartbeats 4000000 in
/-- The body's stores into the second result are the list of codes. -/
theorem run4 : (kernelRun0_A c i arg1 harg1 arg2 harg2 arg3 harg3 arg4 harg4 arg5 harg5 arg6 harg6 x0 x1 x2).2.1
    = codeL arg1 harg1 arg2 harg2 arg3 harg3 arg4 x0 x1 x2 8 := by
  sl_kernel_rfl

/-- The scales of the block's eight chunks, one below the other. -/
def scAll : FVec F S256x128 .f32 :=
  let s := scC arg1 harg1 arg2 harg2 arg3 harg3 arg4 x0 x1 x2
  concatenate S256x128 0 [⟨S32x128, s 0⟩, ⟨S32x128, s 1⟩, ⟨S32x128, s 2⟩, ⟨S32x128, s 3⟩, ⟨S32x128, s 4⟩, ⟨S32x128, s 5⟩, ⟨S32x128, s 6⟩, ⟨S32x128, s 7⟩] concatenates_S32x128_S32x128_S32x128_S32x128_S32x128_S32x128_S32x128_S32x128_S256x128_d0

set_option maxHeartbeats 4000000 in
/-- The body's one store into the third result: the scales transposed, the first 40 rows of them. -/
theorem run5 : (kernelRun0_A c i arg1 harg1 arg2 harg2 arg3 harg3 arg4 harg4 arg5 harg5 arg6 harg6 x0 x1 x2).2.2.1
    = [⟨Rect.unit (s := S1x40x256) ![0, 0, 0] ![1, 40, 256] inb_S1x40x256_S1x40x256_0_0_0,
        k0_pay1 (k0_pay2550 (scAll arg1 harg1 arg2 harg2 arg3 harg3 arg4 x0 x1 x2))⟩] := by
  sl_kernel_rfl

end body

end Cert.KernelIdeal.Blk
end
-- ==== Proof.Exponent.lean ====
/- The power-of-two exponent of a nonnegative real number, found two ways: as the largest entry of the table of
   powers of two (1, as the field of an f32 word, is 127) that is at most the number, and by the logarithm. -/
module

public import Idealize.ShloMosaic.Lib.Pipeline.ValueKit

@[expose] public section

noncomputable section

namespace Cert.Expo

open Idealize.ShloMosaic

/-- The entry of the table at `k`: the real number the f32 word of exponent field `k` and zero fraction denotes. -/
theorem ofBits_field (k : ℕ) (h1 : 1 ≤ k) (h2 : k ≤ 254) :
    Ideal.ofBits .f32 (BitVec.ofNat 32 (k * 2 ^ 23)) = (((2 : ℝ) ^ ((k : ℤ) - 127) : ℝ) : EReal) := by
  have hf : (BitVec.ofNat 32 (k * 2 ^ 23)).toNat = k * 2 ^ 23 := by
    rw [BitVec.toNat_ofNat]; omega
  have hneg : (BitVec.ofNat 32 (k * 2 ^ 23)).extractLsb' (8 + 23) 1 = 0#1 := by
    apply BitVec.eq_of_toNat_eq
    rw [BitVec.extractLsb'_toNat, hf, Nat.shiftRight_eq_div_pow]
    simp; omega
  have hex : ((BitVec.ofNat 32 (k * 2 ^ 23)).extractLsb' 23 8).toNat = k := by
    rw [BitVec.extractLsb'_toNat, hf, Nat.shiftRight_eq_div_pow]
    simp; omega
  have hfr : ((BitVec.ofNat 32 (k * 2 ^ 23)).extractLsb' 0 23).toNat = 0 := by
    rw [BitVec.extractLsb'_toNat, hf, Nat.shiftRight_eq_div_pow]
    simp
  simp only [Ideal.ofBits, Ideal.ieee, hneg, hex, hfr]
  rw [if_neg (by omega), if_neg (by omega)]
  congr 1
  have : ((2 ^ 23 + 0 : ℕ) : ℝ) = (2 : ℝ) ^ (23 : ℤ) := by norm_num
  rw [this]
  simp only [show ((0#1 == 1#1) = false) from rfl, Bool.false_eq_true, if_false, one_mul]
  rw [← zpow_add₀ (by norm_num)]
  congr 1
  norm_num

/-- The entry at zero is zero. -/
theorem ofBits_field_zero : Ideal.ofBits .f32 (BitVec.ofNat 32 (0 * 2 ^ 23)) = 0 := by
  simp [Ideal.ofBits, Ideal.ieee]

/-- The last entry is infinity. -/
theorem ofBits_field_top : Ideal.ofBits .f32 (BitVec.ofNat 32 (255 * 2 ^ 23)) = ⊤ := by
  simp [Ideal.ofBits, Ideal.ieee]

/-- A signed maximum folded over a family is the maximum of the integers the words denote. -/
theorem toInt_fold_maxsi {n : ℕ} (b : BitVec 32) (f : Fin n → BitVec 32) :
    (Finset.univ.fold IntOp.maxsi b f).toInt = Finset.univ.fold max b.toInt (fun k => (f k).toInt) := by
  rw [← Finset.fold_hom (op := IntOp.maxsi) (op' := max) (m := BitVec.toInt)]
  intro x y
  simp only [IntOp.maxsi, BitVec.slt]
  split <;> rename_i h <;> simp at h <;> omega

/-- The largest exponent field whose power of two is at most `v` (field 0 stands for zero). -/
def field (v : EReal) : BitVec 32 :=
  Finset.univ.fold IntOp.maxsi 0x80000000#32 fun k : Fin 256 =>
    if Ideal.ofBits .f32 (BitVec.ofNat 32 (k.val * 2 ^ 23)) ≤ v then BitVec.ofNat 32 (k.val * 2 ^ 23) else 0#32

theorem toInt_field (k : ℕ) (hk : k ≤ 255) : (BitVec.ofNat 32 (k * 2 ^ 23)).toInt = k * 2 ^ 23 := by
  have hf : (BitVec.ofNat 32 (k * 2 ^ 23)).toNat = k * 2 ^ 23 := by
    rw [BitVec.toNat_ofNat]; omega
  rw [BitVec.toInt_eq_toNat_cond, hf]
  rw [if_pos (by omega)]; push_cast; rfl

/-- If the entries at most `v` are those up to `n`, the field found is `n`. -/
theorem field_eq (v : EReal) (n : ℕ) (hn : n ≤ 254)
    (h : ∀ k : ℕ, k ≤ 255 → (Ideal.ofBits .f32 (BitVec.ofNat 32 (k * 2 ^ 23)) ≤ v ↔ k ≤ n)) :
    field v = BitVec.ofNat 32 (n * 2 ^ 23) := by
  apply BitVec.eq_of_toInt_eq
  rw [field, toInt_fold_maxsi, toInt_field n (by omega)]
  apply le_antisymm
  · rw [Finset.fold_max_le]
    refine ⟨by rw [show (0x80000000#32).toInt = -2147483648 from rfl]; omega, fun k _ => ?_⟩
    split
    · rename_i hk
      rw [h k.val (by omega)] at hk
      rw [toInt_field k.val (by omega)]
      omega
    · show (0 : ℤ) ≤ _; omega
  · rw [Finset.le_fold_max]
    refine Or.inr ⟨⟨n, by omega⟩, Finset.mem_univ _, ?_⟩
    simp only
    rw [if_pos ((h n (by omega)).mpr le_rfl), toInt_field n (by omega)]

/-- For a real number below `2 ^ 126` the field is zero when the number is below `2 ^ (-126)`, and otherwise 127 more
    than the integer part of its base-two logarithm. -/
theorem field_cases (r : ℝ) (h0 : 0 ≤ r) (h1 : r < (2 : ℝ) ^ (126 : ℤ)) :
    (r < (2 : ℝ) ^ (-126 : ℤ) ∧ field (r : EReal) = 0#32) ∨
    ((2 : ℝ) ^ (-126 : ℤ) ≤ r ∧ ∃ n : ℕ, 1 ≤ n ∧ n ≤ 252 ∧ field (r : EReal) = BitVec.ofNat 32 (n * 2 ^ 23) ∧
      ⌊Real.log r * (Real.log 2)⁻¹⌋ = (n : ℤ) - 127) := by
  rcases lt_or_ge r ((2 : ℝ) ^ (-126 : ℤ)) with hr | hr
  · refine Or.inl ⟨hr, ?_⟩
    rw [field_eq r 0 (by omega)]; · rfl
    intro k hk
    rcases Nat.eq_zero_or_pos k with rfl | hp
    · rw [ofBits_field_zero]; simpa using h0
    · constructor
      · intro hle
        exfalso
        rcases Nat.lt_or_ge k 255 with hk' | hk'
        · rw [ofBits_field k hp (by omega), EReal.coe_le_coe_iff] at hle
          have : (2 : ℝ) ^ (-126 : ℤ) ≤ (2 : ℝ) ^ ((k : ℤ) - 127) := zpow_le_zpow_right₀ (by norm_num) (by omega)
          linarith
        · obtain rfl : k = 255 := by omega
          rw [ofBits_field_top] at hle
          simp at hle
      · intro; omega
  · refine Or.inr ⟨hr, ?_⟩
    have hpos : 0 < r := lt_of_lt_of_le (by positivity) hr
    have hl2 : 0 < Real.log 2 := Real.log_pos (by norm_num)
    obtain ⟨p, hp⟩ : ∃ p, p = ⌊Real.log r * (Real.log 2)⁻¹⌋ := ⟨_, rfl⟩
    have hlo : (2 : ℝ) ^ p ≤ r := by
      rw [← Real.log_le_log_iff (by positivity) hpos, Real.log_zpow, hp]
      have := Int.floor_le (Real.log r * (Real.log 2)⁻¹)
      calc _ ≤ (Real.log r * (Real.log 2)⁻¹) * Real.log 2 := by gcongr
        _ = Real.log r := by field_simp
    have hhi : r < (2 : ℝ) ^ (p + 1) := by
      rw [← Real.log_lt_log_iff hpos (by positivity), Real.log_zpow, hp]
      have := Int.lt_floor_add_one (Real.log r * (Real.log 2)⁻¹)
      calc Real.log r = (Real.log r * (Real.log 2)⁻¹) * Real.log 2 := by field_simp
        _ < _ := by push_cast; gcongr
    rw [← hp]
    have hp1 : -126 ≤ p := by
      by_contra hc
      have : (2 : ℝ) ^ (p + 1) ≤ (2 : ℝ) ^ (-126 : ℤ) := zpow_le_zpow_right₀ (by norm_num) (by omega)
      linarith
    have hp2 : p < 126 := by
      by_contra hc
      have : (2 : ℝ) ^ (126 : ℤ) ≤ (2 : ℝ) ^ (p) := zpow_le_zpow_right₀ (by norm_num) (by omega)
      linarith
    obtain ⟨n, hn⟩ : ∃ n : ℕ, (n : ℤ) = p + 127 := ⟨(p + 127).toNat, by omega⟩
    refine ⟨n, by omega, by omega, field_eq r n (by omega) ?_, by omega⟩
    intro k hk
    rcases Nat.eq_zero_or_pos k with rfl | hk0
    · rw [ofBits_field_zero]; simpa using h0
    rcases Nat.lt_or_ge k 255 with hk' | hk'
    · rw [ofBits_field k hk0 (by omega), EReal.coe_le_coe_iff]
      constructor
      · intro hle
        by_contra hc
        have : (2 : ℝ) ^ (p + 1) ≤ (2 : ℝ) ^ ((k : ℤ) - 127) := zpow_le_zpow_right₀ (by norm_num) (by omega)
        linarith
      · intro hle
        have : (2 : ℝ) ^ ((k : ℤ) - 127) ≤ (2 : ℝ) ^ (p) := zpow_le_zpow_right₀ (by norm_num) (by omega)
        linarith
    · obtain rfl : k = 255 := by omega
      rw [ofBits_field_top]
      constructor
      · intro hle; simp at hle
      · intro; omega

end Cert.Expo
end
-- ==== Proof.Scale.lean ====
/- The scale of a group and its inverse: the words the kernel builds from the exponent field denote the powers of two
   the reference takes by the exponential. -/
module

public import proofs.«01_k».proof.Proof.Exponent

@[expose] public section

noncomputable section

namespace Cert.Expo

open Idealize.ShloMosaic

/-- The kernel's test that an exponent field is neither the lowest nor the highest. -/
def normal (e : BitVec 32) : BitVec 1 :=
  IntOp.andi (IntOp.cmpi .ne e 0x00000000#32) (IntOp.cmpi .ne e 0x7F800000#32)

/-- The kernel's scale, from the exponent field of `v`. -/
def kScale (v : EReal) : EReal :=
  Ideal.ofBits .f32 (Scalar.select (normal (field v)) (IntOp.addi (field v) 0x00800000#32) 0x3F800000#32)

/-- The kernel's inverse scale. -/
def kInv (v : EReal) : EReal :=
  Ideal.ofBits .f32 (Scalar.select (normal (field v)) (IntOp.subi 0x7E800000#32 (field v)) 0x3F800000#32)

/-- The reference's exponent. -/
def rExp (v : EReal) : EReal :=
  Scalar.select (Ideal.cmp .olt v (Ideal.ofBits .f32 0x00800000#32)) (0 : EReal)
    (Ideal.liftRound Int.floor (Ideal.log v * (((Real.log 2)⁻¹ : ℝ) : EReal)) + 1)

/-- The reference's scale. -/
def rScale (v : EReal) : EReal := Ideal.exp2 (rExp v)

/-- The reference's inverse scale. -/
def rInv (v : EReal) : EReal := Ideal.exp2 (0 - rExp v)

theorem ofBits_minNormal : Ideal.ofBits .f32 0x00800000#32 = (((2 : ℝ) ^ (-126 : ℤ) : ℝ) : EReal) := by
  have := ofBits_field 1 (by omega) (by omega)
  simpa using this

theorem ofBits_one : Ideal.ofBits .f32 0x3F800000#32 = (1 : EReal) := by
  have := ofBits_field 127 (by omega) (by omega)
  simpa using this

theorem exp2_intCast (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

theorem normal_field (n : ℕ) (h1 : 1 ≤ n) (h2 : n ≤ 252) : normal (BitVec.ofNat 32 (n * 2 ^ 23)) = 1#1 := by
  have hf : (BitVec.ofNat 32 (n * 2 ^ 23)).toNat = n * 2 ^ 23 := by
    rw [BitVec.toNat_ofNat]; omega
  have a1 : BitVec.ofNat 32 (n * 2 ^ 23) ≠ 0x00000000#32 := by
    intro h; have := congrArg BitVec.toNat h; rw [hf] at this; simp at this; omega
  have a2 : BitVec.ofNat 32 (n * 2 ^ 23) ≠ 0x7F800000#32 := by
    intro h; have := congrArg BitVec.toNat h; rw [hf] at this; simp at this; omega
  have b1 : (BitVec.ofNat 32 (n * 2 ^ 23) != 0x00000000#32) = true := bne_iff_ne.mpr a1
  have b2 : (BitVec.ofNat 32 (n * 2 ^ 23) != 0x7F800000#32) = true := bne_iff_ne.mpr a2
  simp only [normal, IntOp.andi, IntOp.cmpi, b1, b2]
  rfl

/-- One more in the exponent field. -/
theorem addi_field (n : ℕ) (h2 : n ≤ 252) : IntOp.addi (BitVec.ofNat 32 (n * 2 ^ 23)) 0x00800000#32
    = BitVec.ofNat 32 ((n + 1) * 2 ^ 23) := by
  apply BitVec.eq_of_toNat_eq
  have e : (0x00800000#32).toNat = 8388608 := rfl
  rw [IntOp.addi, BitVec.toNat_add, e, BitVec.toNat_ofNat, BitVec.toNat_ofNat]
  omega

/-- The complement of the exponent field. -/
theorem subi_field (n : ℕ) (h2 : n ≤ 252) : IntOp.subi 0x7E800000#32 (BitVec.ofNat 32 (n * 2 ^ 23))
    = BitVec.ofNat 32 ((253 - n) * 2 ^ 23) := by
  apply BitVec.eq_of_toNat_eq
  have e : (0x7E800000#32).toNat = 2122317824 := rfl
  rw [IntOp.subi, BitVec.toNat_sub, e, BitVec.toNat_ofNat, BitVec.toNat_ofNat]
  omega

/-- The reference's exponent of a real number, in the two cases of `field_cases`. -/
theorem rExp_low (r : ℝ) (h : r < (2 : ℝ) ^ (-126 : ℤ)) : rExp (r : EReal) = 0 := by
  rw [rExp, ofBits_minNormal]
  have : ((r : ℝ) : EReal) < (((2 : ℝ) ^ (-126 : ℤ) : ℝ) : EReal) := EReal.coe_lt_coe_iff.mpr h
  simp only [Ideal.cmp, this, decide_true, Scalar.select]
  rfl

theorem rExp_high (r : ℝ) (h : (2 : ℝ) ^ (-126 : ℤ) ≤ r) :
    rExp (r : EReal) = (((⌊Real.log r * (Real.log 2)⁻¹⌋ + 1 : ℤ) : ℝ) : EReal) := by
  rw [rExp, ofBits_minNormal]
  have : ¬ ((r : ℝ) : EReal) < (((2 : ℝ) ^ (-126 : ℤ) : ℝ) : EReal) := by
    rw [EReal.coe_lt_coe_iff]; exact not_lt.mpr h
  have hpos : 0 < r := lt_of_lt_of_le (by positivity) h
  have hl : Ideal.log (r : EReal) = ((Real.log r : ℝ) : EReal) := by
    show (if r ≤ 0 then ⊥ else ((Real.log r : ℝ) : EReal)) = _
    rw [if_neg (not_le.mpr hpos)]
  rw [hl, ← EReal.coe_mul]
  simp only [Ideal.cmp, this, decide_false, Scalar.select]
  show (((⌊Real.log r * (Real.log 2)⁻¹⌋ : ℝ) : ℝ) : EReal) + 1 = _
  push_cast
  rfl

/-- The scales agree. -/
theorem scale_eq (r : ℝ) (h0 : 0 ≤ r) (h1 : r < (2 : ℝ) ^ (126 : ℤ)) : kScale (r : EReal) = rScale (r : EReal) := by
  rcases field_cases r h0 h1 with ⟨hr, hf⟩ | ⟨hr, n, hn1, hn2, hf, hfl⟩
  · rw [kScale, hf, rScale, rExp_low r hr]
    have : Scalar.select (normal 0#32) (IntOp.addi 0#32 0x00800000#32) 0x3F800000#32 = 0x3F800000#32 := by decide
    rw [this, ofBits_one]
    have := exp2_intCast 0
    simpa using this.symm
  · rw [kScale, hf, normal_field n hn1 hn2, rScale, rExp_high r hr, exp2_intCast, hfl]
    have : Scalar.select 1#1 (IntOp.addi (BitVec.ofNat 32 (n * 2 ^ 23)) 0x00800000#32) 0x3F800000#32
        = BitVec.ofNat 32 ((n + 1) * 2 ^ 23) := addi_field n hn2
    rw [this, ofBits_field (n + 1) (by omega) (by omega)]
    congr 2; push_cast; ring

/-- The inverse scales agree. -/
theorem inv_eq (r : ℝ) (h0 : 0 ≤ r) (h1 : r < (2 : ℝ) ^ (126 : ℤ)) : kInv (r : EReal) = rInv (r : EReal) := by
  rcases field_cases r h0 h1 with ⟨hr, hf⟩ | ⟨hr, n, hn1, hn2, hf, hfl⟩
  · rw [kInv, hf, rInv, rExp_low r hr]
    have : Scalar.select (normal 0#32) (IntOp.subi 0x7E800000#32 0#32) 0x3F800000#32 = 0x3F800000#32 := by decide
    rw [this, ofBits_one]
    have := exp2_intCast 0
    simpa using this.symm
  · rw [kInv, hf, normal_field n hn1 hn2, rInv, rExp_high r hr, hfl]
    have : Scalar.select 1#1 (IntOp.subi 0x7E800000#32 (BitVec.ofNat 32 (n * 2 ^ 23))) 0x3F800000#32
        = BitVec.ofNat 32 ((253 - n) * 2 ^ 23) := subi_field n hn2
    rw [this, ofBits_field (253 - n) (by omega) (by omega)]
    have h3 : (0 : EReal) - (((((n : ℤ) - 127 + 1 : ℤ)) : ℝ) : EReal) = (((126 - (n : ℤ) : ℤ) : ℝ) : EReal) := by
      rw [← EReal.coe_zero, ← EReal.coe_sub]; congr 1; push_cast; ring
    rw [h3, exp2_intCast]
    congr 2; push_cast [show n ≤ 253 by omega]; ring

end Cert.Expo
end
-- ==== Proof.Bound.lean ====
/- One row of the kernel over the extended reals: the normalised row is bounded, whatever the row holds. -/
module

public import proofs.«01_k».proof.Proof.Scale

@[expose] public section

noncomputable section

namespace Cert.Expo

open Idealize.ShloMosaic

theorem mul_self_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

theorem mul_self_top (a : EReal) (h : a = ⊤ ∨ a = ⊥) : a * a = ⊤ := by
  rcases h with rfl | rfl
  · exact EReal.top_mul_top
  · exact EReal.bot_mul_bot

theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inverse root mean square of a row of `n` values. -/
def rms {n : ℕ} (x : Fin n → EReal) (eps : EReal) : EReal :=
  Ideal.rsqrt ((∑ j, x j * x j) * (((1 / n : ℝ) : ℝ) : EReal) + eps)

/-- Every entry of a row times the row's inverse root mean square is a real number of absolute value at most `√n`. -/
theorem normalised_real {n : ℕ} (hn : 0 < n) (x : Fin n → EReal) (e : ℝ) (he : 0 < e) (j : Fin n) :
    ∃ r : ℝ, x j * rms x (e : EReal) = (r : EReal) ∧ |r| ≤ √n := by
  have hn' : (0 : ℝ) < n := by exact_mod_cast hn
  by_cases hx : ∃ i, x i = ⊤ ∨ x i = ⊥
  · obtain ⟨i, hi⟩ := hx
    have hS : (∑ j, x j * x j) = ⊤ := by
      have := Finset.single_le_sum (f := fun j => x j * x j) (fun j _ => mul_self_nonneg' (x j)) (Finset.mem_univ i)
      rw [mul_self_top _ hi] at this
      exact top_le_iff.mp this
    refine ⟨0, ?_, by simp⟩
    have hpos : (0 : EReal) < (((1 / n : ℝ) : ℝ) : EReal) := by
      rw [← EReal.coe_zero, EReal.coe_lt_coe_iff]; positivity
    rw [rms, hS, EReal.top_mul_of_pos hpos, EReal.top_add_coe]
    show x j * (0 : EReal) = _
    simp
  · push Not at hx
    have hr : ∃ r : Fin n → ℝ, ∀ i, x i = (r i : EReal) :=
      ⟨fun i => (x i).toReal, fun i => (EReal.coe_toReal (hx i).1 (hx i).2).symm⟩
    obtain ⟨r, hr⟩ := hr
    have hS : (∑ j, x j * x j) = ((∑ j, r j * r j : ℝ) : EReal) := by
      rw [coe_finsum]
      exact Finset.sum_congr rfl fun i _ => by rw [hr i, EReal.coe_mul]
    have hS0 : 0 ≤ ∑ j, r j * r j := Finset.sum_nonneg fun i _ => mul_self_nonneg _
    have hj : r j * r j ≤ ∑ j, r j * r j :=
      Finset.single_le_sum (f := fun j => r j * r j) (fun i _ => mul_self_nonneg (r i)) (Finset.mem_univ j)
    have hq : 0 < (∑ j, r j * r j) * (1 / n) + e := by positivity
    have hrs : rms x (e : EReal) = (((√((∑ j, r j * r j) * (1 / n) + e))⁻¹ : ℝ) : EReal) := by
      rw [rms, hS, ← EReal.coe_mul, ← EReal.coe_add]
      rw [Ideal.rsqrt_coe, if_neg (not_lt.mpr hq.le), if_neg hq.ne']
    refine ⟨r j * (√((∑ j, r j * r j) * (1 / n) + e))⁻¹, by rw [hrs, hr j, EReal.coe_mul], ?_⟩
    rw [abs_mul, abs_inv, abs_of_nonneg (Real.sqrt_nonneg _), ← div_eq_mul_inv,
      div_le_iff₀ (Real.sqrt_pos.mpr hq), ← Real.sqrt_mul hn'.le, ← Real.sqrt_sq_eq_abs]
    apply Real.sqrt_le_sqrt
    have : (n : ℝ) * ((∑ j, r j * r j) * (1 / n) + e) = (∑ j, r j * r j) + n * e := by field_simp
    rw [this, sq]
    nlinarith [mul_pos hn' he]

/-- A maximum of absolute values of real numbers at most `M` is a real number between 0 and `M`. -/
theorem foldMax_real {n : ℕ} (hn : 0 < n) (y : Fin n → EReal) (M : ℝ)
    (h : ∀ j, ∃ r : ℝ, y j = (r : EReal) ∧ |r| ≤ M) :
    ∃ a : ℝ, (Finset.univ.fold max (⊥ : EReal) fun j => max (y j) (-(y j))) = (a : EReal) ∧ 0 ≤ a ∧ a ≤ M := by
  set A := Finset.univ.fold max (⊥ : EReal) fun j => max (y j) (-(y j)) with hA
  have hle : A ≤ (M : EReal) := by
    rw [hA, Finset.fold_max_le]
    refine ⟨bot_le, fun j _ => ?_⟩
    obtain ⟨r, hr, hM⟩ := h j
    rw [hr, ← EReal.coe_neg]
    exact max_le (EReal.coe_le_coe_iff.mpr (le_trans (le_abs_self r) hM))
      (EReal.coe_le_coe_iff.mpr (le_trans (neg_le_abs r) hM))
  have hge : (0 : EReal) ≤ A := by
    rw [hA, Finset.le_fold_max]
    refine Or.inr ⟨⟨0, hn⟩, Finset.mem_univ _, ?_⟩
    obtain ⟨r, hr, hM⟩ := h ⟨0, hn⟩
    rw [hr, ← EReal.coe_neg, ← EReal.coe_zero]
    rcases le_total 0 r with h0 | h0
    · exact le_max_of_le_left (EReal.coe_le_coe_iff.mpr h0)
    · exact le_max_of_le_right (EReal.coe_le_coe_iff.mpr (by linarith))
  have ht : A ≠ ⊤ := by intro ht; rw [ht] at hle; simp at hle
  have hb : A ≠ ⊥ := by intro hb; rw [hb] at hge; simp at hge
  have hc := EReal.coe_toReal ht hb
  refine ⟨A.toReal, hc.symm, EReal.toReal_nonneg hge, ?_⟩
  rw [← hc] at hle
  exact EReal.coe_le_coe_iff.mp hle

end Cert.Expo
end
-- ==== Proof.Row.lean ====
/- One row of 5120 values: the normalised row, the scaled maximum of each of its 40 groups, the codes and the scales,
   with the kernel's power of two and with the reference's; and that the two agree when the gain is bounded. -/
module

public import proofs.«01_k».proof.Proof.Bound

@[expose] public section

noncomputable section

namespace Cert.Row

open Idealize.ShloMosaic Cert.Expo

/-- Column `l` of group `k`. -/
def col (k : Fin 40) (l : Fin 128) : Fin 5120 := ⟨128 * k.val + l.val, by omega⟩
/-- The group of a column. -/
def grp (j : Fin 5120) : Fin 40 := ⟨j.val / 128, by omega⟩
/-- A column's place in its group. -/
def lane (j : Fin 5120) : Fin 128 := ⟨j.val % 128, by omega⟩

theorem col_grp_lane (j : Fin 5120) : col (grp j) (lane j) = j := Fin.ext (Nat.div_add_mod _ _)
theorem grp_col (k : Fin 40) (l : Fin 128) : grp (col k l) = k := Fin.ext (by simp only [grp, col]; omega)
theorem lane_col (k : Fin 40) (l : Fin 128) : lane (col k l) = l := Fin.ext (by simp only [lane, col]; omega)

/-- A sum over the columns is a sum over lanes of sums over groups. -/
theorem sum_col {M : Type} [AddCommMonoid M] (f : Fin 5120 → M) : ∑ l, ∑ k, f (col k l) = ∑ j, f j := by
  rw [← Finset.sum_product']
  refine Finset.sum_bij' (fun p _ => col p.2 p.1) (fun j _ => (lane j, grp j)) ?_ ?_ ?_ ?_ ?_
  · intros; simp
  · intros; simp
  · rintro ⟨l, k⟩ _; simp only [grp_col, lane_col]
  · intro j _; exact col_grp_lane j
  · intros; rfl

/-- The normalised row. -/
def y (n g : Fin 5120 → EReal) (j : Fin 5120) : EReal :=
  n j * rms n (Ideal.ofBits .f32 0x358637BD#32) * g j

/-- The scaled maximum of a group. -/
def v (n g : Fin 5120 → EReal) (k : Fin 40) : EReal :=
  (Finset.univ.fold max (Ideal.ofBits .f32 0xFF800000#32) fun l => max (y n g (col k l)) (-(y n g (col k l))))
    * Ideal.ofBits .f32 0x3B124925#32

/-- The code of a column, from the inverse scale of its group. -/
def code (n g : Fin 5120 → EReal) (inv : EReal → EReal) (j : Fin 5120) : EReal :=
  min (Ideal.ofBits .f32 0x43E00000#32) (max (Ideal.ofBits .f32 0xC3E00000#32) (y n g j * inv (v n g (grp j))))

theorem ofBits_negInf : Ideal.ofBits .f32 0xFF800000#32 = ⊥ := by
  simp [Ideal.ofBits, Ideal.ieee]

theorem eps_pos : ∃ e : ℝ, 0 < e ∧ Ideal.ofBits .f32 0x358637BD#32 = (e : EReal) := by
  refine ⟨_, ?_, by simp [Ideal.ofBits, Ideal.ieee]; rfl⟩
  norm_num

theorem c448 : ∃ c : ℝ, 0 < c ∧ c < 1 / 288 ∧ Ideal.ofBits .f32 0x3B124925#32 = (c : EReal) := by
  refine ⟨_, ?_, ?_, by simp [Ideal.ofBits, Ideal.ieee]; rfl⟩
  · norm_num
  · norm_num

theorem gammaMax : ∃ c : ℝ, c ≤ (2 : ℝ) ^ (128 : ℤ) ∧ Ideal.ofBits .f32 0x7F7F0000#32 = (c : EReal) := by
  refine ⟨_, ?_, by simp [Ideal.ofBits, Ideal.ieee]; rfl⟩
  norm_num

/-- A gain whose absolute value is at most the largest finite bf16 number is a real number. -/
theorem gamma_real (a : EReal) (h : max a (-a) ≤ Ideal.ofBits .f32 0x7F7F0000#32) :
    ∃ r : ℝ, a = (r : EReal) ∧ |r| ≤ (2 : ℝ) ^ (128 : ℤ) := by
  obtain ⟨c, hc, he⟩ := gammaMax
  rw [he] at h
  have h1 := le_trans (le_max_left _ _) h
  have h2 := le_trans (le_max_right _ _) h
  induction a with
  | bot => simp at h2
  | top => simp at h1
  | coe r =>
    refine ⟨r, rfl, abs_le.mpr ⟨?_, ?_⟩⟩
    · rw [← EReal.coe_neg, EReal.coe_le_coe_iff] at h2; linarith
    · rw [EReal.coe_le_coe_iff] at h1; linarith

/-- With a bounded gain the scaled maximum of a group is a nonnegative real number below `2 ^ 126`. -/
theorem v_real (n g : Fin 5120 → EReal) (hg : ∀ j, max (g j) (-(g j)) ≤ Ideal.ofBits .f32 0x7F7F0000#32) (k : Fin 40) :
    ∃ r : ℝ, v n g k = (r : EReal) ∧ 0 ≤ r ∧ r < (2 : ℝ) ^ (126 : ℤ) := by
  obtain ⟨e, he, hee⟩ := eps_pos
  obtain ⟨c, hc0, hc1, hcc⟩ := c448
  have hy : ∀ l, ∃ r : ℝ, y n g (col k l) = (r : EReal) ∧ |r| ≤ 72 * (2 : ℝ) ^ (128 : ℤ) := by
    intro l
    obtain ⟨r, hr, hr'⟩ := normalised_real (by norm_num) n e he (col k l)
    obtain ⟨q, hq, hq'⟩ := gamma_real _ (hg (col k l))
    refine ⟨r * q, by rw [y, hee, hr, hq, EReal.coe_mul], ?_⟩
    rw [abs_mul]
    have h72 : √((5120 : ℕ) : ℝ) ≤ 72 := by
      rw [Real.sqrt_le_left (by norm_num)]; norm_num
    exact mul_le_mul (le_trans hr' h72) hq' (abs_nonneg _) (by norm_num)
  obtain ⟨a, ha, ha0, ha1⟩ := foldMax_real (by norm_num) (fun l => y n g (col k l)) _ hy
  refine ⟨a * c, ?_, mul_nonneg ha0 hc0.le, ?_⟩
  · rw [v, ofBits_negInf, hcc, ha, EReal.coe_mul]
  · calc a * c ≤ (72 * (2 : ℝ) ^ (128 : ℤ)) * c := by gcongr
      _ < (72 * (2 : ℝ) ^ (128 : ℤ)) * (1 / 288) := by gcongr
      _ = (2 : ℝ) ^ (126 : ℤ) := by norm_num

/-- The codes agree. -/
theorem code_eq (n g : Fin 5120 → EReal) (hg : ∀ j, max (g j) (-(g j)) ≤ Ideal.ofBits .f32 0x7F7F0000#32) (j : Fin 5120) :
    code n g kInv j = code n g rInv j := by
  obtain ⟨r, hr, h0, h1⟩ := v_real n g hg (grp j)
  rw [code, code, hr, inv_eq r h0 h1]

/-- The scales agree. -/
theorem scale_eq (n g : Fin 5120 → EReal) (hg : ∀ j, max (g j) (-(g j)) ≤ Ideal.ofBits .f32 0x7F7F0000#32) (k : Fin 40) :
    kScale (v n g k) = rScale (v n g k) := by
  obtain ⟨r, hr, h0, h1⟩ := v_real n g hg k
  rw [hr, Expo.scale_eq r h0 h1]

end Cert.Row
end
-- ==== Proof.Block.lean ====
/- What the kernel's body leaves in a block over the extended reals: at each place of the three results a function of one
   row of the block. -/
module

public import proofs.«01_k».proof.Proof.Tiles
public import proofs.«01_k».proof.Proof.Row

@[expose] public section

set_option maxRecDepth 16384

noncomputable section

namespace Cert.KernelIdeal.Blk

open Idealize.ShloMosaic Idealize.ShloMosaic.TcCoe Idealize.ShloMosaic.Tactic Cert.KernelIdeal Cert.KernelIdeal.Gen

/-- Row `p` of chunk `c`. -/
def row (c : ℕ) (p : Fin 32) : Fin 256 := ⟨32 * (c % 8) + p.val, by omega⟩
/-- Column `l` of group `k`. -/
def colN (k : ℕ) (l : Fin 128) : Fin 5120 := ⟨128 * (k % 40) + l.val, by omega⟩

theorem colN_fin (k : Fin 40) (l : Fin 128) : colN k.val l = Row.col k l :=
  Fin.ext (by simp only [colN, Row.col]; omega)

/-- A tile's index placed in the block. -/
theorem tile_emb (c k : ℕ) (p : Fin 32) (l : Fin 128) :
    (tileRect c k).emb (ix2 p l) = (ix2 (row c p) (colN k l) : S256x5120.Idx) := by
  funext a
  apply Fin.ext
  rw [ValueKit.rect_emb_unit_val]
  fin_cases a <;> rfl

theorem gain_emb (k : ℕ) (l : Fin 128) :
    (gainRect k).emb (ix2 0 l) = (ix2 0 (colN k l) : S1x5120.Idx) := by
  funext a
  apply Fin.ext
  rw [ValueKit.rect_emb_unit_val]
  fin_cases a <;> rfl

section lists

variable {F : FTy → Type} [FloatOps F] {e : EltTy}

theorem mem_chunkL (T : ℕ → Vec F S32x128 e) (c n : ℕ) (p : View.Piece (Elt F) S256x5120 e) :
    p ∈ chunkL T c n ↔ ∃ k < n, p = ⟨tileRect c k, T k⟩ := by
  induction n with
  | zero => simp [chunkL]
  | succ n ih =>
    show p ∈ (⟨tileRect c n, T n⟩ :: chunkL T c n : List (View.Piece (Elt F) S256x5120 e)) ↔ _
    rw [List.mem_cons, ih]
    constructor
    · rintro (rfl | ⟨k, hk, rfl⟩)
      · exact ⟨n, by omega, rfl⟩
      · exact ⟨k, by omega, rfl⟩
    · rintro ⟨k, hk, rfl⟩
      rcases Nat.lt_or_ge k n with h | h
      · exact Or.inr ⟨k, h, rfl⟩
      · obtain rfl : k = n := by omega
        exact Or.inl rfl

theorem mem_allL (T : ℕ → ℕ → Vec F S32x128 e) (n : ℕ) (p : View.Piece (Elt F) S256x5120 e) :
    p ∈ allL T n ↔ ∃ c < n, ∃ k < 40, p = ⟨tileRect c k, T c k⟩ := by
  induction n with
  | zero => simp [allL]
  | succ n ih =>
    show p ∈ (chunkL (T n) n 40 ++ allL T n : List (View.Piece (Elt F) S256x5120 e)) ↔ _
    rw [List.mem_append, ih, mem_chunkL]
    constructor
    · rintro (⟨k, hk, rfl⟩ | ⟨c, hc, k, hk, rfl⟩)
      · exact ⟨n, by omega, k, hk, rfl⟩
      · exact ⟨c, by omega, k, hk, rfl⟩
    · rintro ⟨c, hc, k, hk, rfl⟩
      rcases Nat.lt_or_ge c n with h | h
      · exact Or.inr ⟨c, h, k, hk, rfl⟩
      · obtain rfl : c = n := by omega
        exact Or.inl ⟨k, hk, rfl⟩

/-- If every tile stored is a tile of `G`, the rows of the first `n` chunks hold `G`. -/
theorem canon_allL [∀ e, Nonempty (Elt F e)] (T : ℕ → ℕ → Vec F S32x128 e) (G : S256x5120.Idx → Elt F e) (n : ℕ) (hn : n ≤ 8)
    (hT : ∀ c < n, ∀ k < 40, ∀ p l, T c k (ix2 p l) = G (ix2 (row c p) (colN k l)))
    (y0 : Fin 256) (y1 : Fin 5120) (hy : y0.val < 32 * n) :
    View.canon (allL T n) (ix2 y0 y1) = G (ix2 y0 y1) := by
  have key := View.canon_append_of_pieces (Val := Elt F) G [] (allL T n) ?_ (ix2 y0 y1) ?_
  · rwa [List.append_nil] at key
  · intro q hq x
    obtain ⟨c, hc, k, hk, rfl⟩ := (mem_allL T n q).mp hq
    obtain ⟨p, l, rfl⟩ : ∃ (p : Fin 32) (l : Fin 128), x = ix2 p l := ⟨x 0, x 1, eq_ix2 x⟩
    exact (hT c hc k hk p l).trans (congrArg G (tile_emb c k p l).symm)
  · refine ⟨⟨tileRect (y0.val / 32) (y1.val / 128), T _ _⟩, (mem_allL T n _).mpr ⟨_, by omega, _, by omega, rfl⟩, ?_⟩
    rw [Rect.mem_set_unit]
    intro a
    fin_cases a
    · show 32 * (y0.val / 32 % 8) ≤ y0.val ∧ y0.val < 32 * (y0.val / 32 % 8) + 32
      omega
    · show 128 * (y1.val / 128 % 40) ≤ y1.val ∧ y1.val < 128 * (y1.val / 128 % 40) + 128
      omega

end lists

/-! ## One tile -/

theorem nrTile_apply (x r : Vec Ideal S32x128 .bf16) (p : Fin 32) (l : Fin 128) :
    nrTile x r (ix2 p l) = ((x (ix2 p l) : EReal) + (r (ix2 p l) : EReal) : EReal) := by
  pointwise [nrTile]

theorem accStep_apply (x r : Vec Ideal S32x128 .bf16) (a : FVec Ideal S32x128 .f32) (p : Fin 32) (l : Fin 128) :
    accStep x r a (ix2 p l) = ((a (ix2 p l) : EReal) + ((x (ix2 p l) : EReal) + (r (ix2 p l) : EReal)) * ((x (ix2 p l) : EReal) + (r (ix2 p l) : EReal)) : EReal) := by
  pointwise [accStep, nrTile]

theorem acc_apply (X R : ℕ → Vec Ideal S32x128 .bf16) (n : ℕ) (p : Fin 32) (l : Fin 128) :
    acc X R n (ix2 p l) = (∑ k ∈ Finset.range n, ((X k (ix2 p l) : EReal) + (R k (ix2 p l) : EReal)) * ((X k (ix2 p l) : EReal) + (R k (ix2 p l) : EReal)) : EReal) := by
  induction n with
  | zero =>
    show (broadcast S32x128 (Scalar.ofBits (F := Ideal) .f32 0x00000000#32)) (ix2 p l) = _
    pointwise []
    simp
  | succ n ih =>
    show accStep (X n) (R n) (acc X R n) (ix2 p l) = _
    rw [accStep_apply, ih, Finset.sum_range_succ]

theorem inv_d : (Named.named κ "inv_d" 0x394CCCCD#32 : Ideal .f32) = (((1 / (5120 : ℕ) : ℝ) : ℝ) : EReal) := by
  have h : (((5120 : ℕ) : ℝ)) = 5120 := by norm_num
  rw [h]
  rfl

theorem rsq_apply (a : FVec Ideal S32x128 .f32) (p : Fin 32) :
    rsq a (ix2 p 0) = Ideal.rsqrt ((∑ l, (a (ix2 p l) : EReal)) * (((1 / (5120 : ℕ) : ℝ) : ℝ) : EReal) + Ideal.ofBits .f32 0x358637BD#32) := by
  pointwise [rsq]
  rw [inv_d]

theorem yTile_apply (rs : FVec Ideal S32x1 .f32) (n : Vec Ideal S32x128 .bf16) (g : Vec Ideal S1x128 .f32) (p : Fin 32) (l : Fin 128) :
    yTile rs n g (ix2 p l) = ((n (ix2 p l) : EReal) * (rs (ix2 p 0) : EReal) * (g (ix2 0 l) : EReal) : EReal) := by
  pointwise [yTile]

theorem vTile_apply (y : FVec Ideal S32x128 .f32) (p : Fin 32) :
    vTile y (ix2 p 0) = ((Finset.univ.fold max (Ideal.ofBits .f32 0xFF800000#32) fun l => max (y (ix2 p l) : EReal) (-(y (ix2 p l) : EReal)))
      * Ideal.ofBits .f32 0x3B124925#32 : EReal) := by
  pointwise [vTile]
  rfl

theorem eTile_apply (y : FVec Ideal S32x128 .f32) (p : Fin 32) :
    eTile y (ix2 p 0) = Expo.field (vTile y (ix2 p 0)) := by
  pointwise [eTile, fields]
  rw [Expo.field]
  have h : ∀ x : Fin 256, IntOp.shli ArithUnit.vector (BitVec.ofNat 32 x.val) 23#32 = BitVec.ofNat 32 (x.val * 2 ^ 23) := by
    decide +kernel
  simp only [h]

theorem codeTile_apply (y : FVec Ideal S32x128 .f32) (p : Fin 32) (l : Fin 128) :
    codeTile y (ix2 p l) = (min (Ideal.ofBits .f32 0x43E00000#32) (max (Ideal.ofBits .f32 0xC3E00000#32)
      ((y (ix2 p l) : EReal) * Expo.kInv (vTile y (ix2 p 0)))) : EReal) := by
  pointwise [codeTile, normalTile]
  simp only [eTile_apply]
  rfl

theorem scaleTile_apply (y : FVec Ideal S32x128 .f32) (p : Fin 32) :
    scaleTile y (ix2 p 0) = Expo.kScale (vTile y (ix2 p 0)) := by
  pointwise [scaleTile, normalTile]
  simp only [eTile_apply]
  rfl

theorem scales_apply (Y : ℕ → FVec Ideal S32x128 .f32) (n : ℕ) (hn : n ≤ 40) (p : Fin 32) (l : Fin 128) (hl : l.val < n) :
    scales Y n (ix2 p l) = scaleTile (Y l.val) (ix2 p 0) := by
  induction n with
  | zero => omega
  | succ n ih =>
    show (select (cmpi .eq (iota .tc S32x128 32 [1] iota_S32x128_d1_w32) (broadcast S32x128 (BitVec.ofNat 32 n)))
      (broadcastTo S32x128 (shapeCast S32x1 (scaleTile (Y n)) shapeCasts_S32x1_S32x1) broadcasts_S32x1_S32x128) (scales Y n)) (ix2 p l) = _
    pointwise []
    have hb : IntOp.cmpi CmpIPredicate.eq (BitVec.ofNat 32 l.val) (BitVec.ofNat 32 n) = BitVec.ofBool (decide (l.val = n)) := by
      simp only [IntOp.cmpi]
      congr 1
      rw [Bool.eq_iff_iff, beq_iff_eq, decide_eq_true_iff]
      constructor
      · intro h
        have := congrArg BitVec.toNat h
        rw [BitVec.toNat_ofNat, BitVec.toNat_ofNat] at this
        omega
      · rintro h; rw [h]
    rw [hb]
    rcases Nat.lt_or_ge l.val n with h | h
    · rw [ih (by omega) h]
      simp [Scalar.select, show l.val ≠ n by omega]
    · obtain rfl : l.val = n := by omega
      simp [Scalar.select]

end Cert.KernelIdeal.Blk
end
-- ==== Proof.BlockValue.lean ====
/- What the kernel's body leaves in its three result blocks over the extended reals, from the blocks of its inputs. -/
module

public import proofs.«01_k».proof.Proof.Block

@[expose] public section

set_option maxRecDepth 16384

noncomputable section

namespace Cert.KernelIdeal.Blk

open Idealize.ShloMosaic Idealize.ShloMosaic.TcCoe Idealize.ShloMosaic.Tactic Cert.KernelIdeal Cert.KernelIdeal.Gen

/-- Row `p` of the sum of two blocks. -/
def nrow (x0 x1 : Vec Ideal S256x5120 .bf16) (p : Fin 256) : Fin 5120 → EReal :=
  fun j => (x0 (ix2 p j) : EReal) + (x1 (ix2 p j) : EReal)
/-- The gain. -/
def grow (x2 : Vec Ideal S1x5120 .f32) : Fin 5120 → EReal := fun j => x2 (ix2 0 j)

section body

variable (c : Dev nD) (i : grid0.Coords) (arg1 : Memref sig .tc .vmem S256x5120 .bf16) (harg1 : arg1.IsWhole)
  (arg2 : Memref sig .tc .vmem S256x5120 .bf16) (harg2 : arg2.IsWhole) (arg3 : Memref sig .tc .vmem S1x5120 .f32) (harg3 : arg3.IsWhole)
  (arg4 : Memref sig .tc .vmem S256x5120 .bf16) (harg4 : arg4.IsWhole) (arg5 : Memref sig .tc .vmem S256x5120 .fp8e4m3) (harg5 : arg5.IsWhole)
  (arg6 : Memref sig .tc .vmem S1x40x256 .f32) (harg6 : arg6.IsWhole)
  (x0 : Vec Ideal S256x5120 .bf16) (x1 : Vec Ideal S256x5120 .bf16) (x2 : Vec Ideal S1x5120 .f32)

theorem ldX_apply (k c : ℕ) (p : Fin 32) (l : Fin 128) :
    ldX arg1 harg1 x0 k c (ix2 p l) = x0 (ix2 (row c p) (colN k l)) := by
  have h : ldX arg1 harg1 x0 k c (ix2 p l) = (arg1.view.read (Elt Ideal) (harg1.unread x0)) ((tileRect c k).emb (ix2 p l)) := rfl
  rw [h, harg1.read_unread, tile_emb]

theorem ldG_apply (k : ℕ) (l : Fin 128) : ldG arg3 harg3 x2 k (ix2 0 l) = x2 (ix2 0 (colN k l)) := by
  have h : ldG arg3 harg3 x2 k (ix2 0 l) = (arg3.view.read (Elt Ideal) (harg3.unread x2)) ((gainRect k).emb (ix2 0 l)) := rfl
  rw [h, harg3.read_unread, gain_emb]

/-- The sums stored by the first `n` chunks. -/
theorem canon_nrL (n : ℕ) (hn : n ≤ 8) (y0 : Fin 256) (y1 : Fin 5120) (hy : y0.val < 32 * n) :
    View.canon (nrL arg1 harg1 arg2 harg2 x0 x1 n) (ix2 y0 y1) = nrow x0 x1 y0 y1 := by
  refine canon_allL (F := Ideal) (e := .bf16) _ (fun y => (nrow x0 x1 (y 0) (y 1) : EReal)) n hn ?_ y0 y1 hy
  intro c hc k hk p l
  rw [nrTile_apply, ldX_apply, ldX_apply]
  rfl

theorem rsC_apply (c : ℕ) (p : Fin 32) :
    rsC arg1 harg1 arg2 harg2 x0 x1 c (ix2 p 0) = Expo.rms (nrow x0 x1 (row c p)) (Ideal.ofBits .f32 0x358637BD#32) := by
  rw [rsC, rsq_apply, Expo.rms, ← Row.sum_col]
  congr 3
  refine Finset.sum_congr rfl fun l _ => ?_
  rw [acc_apply, Finset.sum_range]
  refine Finset.sum_congr rfl fun k _ => ?_
  rw [ldX_apply, ldX_apply, colN_fin]
  rfl

theorem yC_apply (c k : ℕ) (hc : c < 8) (p : Fin 32) (l : Fin 128) :
    yC arg1 harg1 arg2 harg2 arg3 harg3 arg4 x0 x1 x2 c k (ix2 p l)
      = Row.y (nrow x0 x1 (row c p)) (grow x2) (colN k l) := by
  rw [yC, yTile_apply, rsC_apply, ldG_apply, View.readCov_eq_canon']
  have h : ((tileRect c k).toLoadRect.idx (ix2 p l)) = (ix2 (row c p) (colN k l) : S256x5120.Idx) := tile_emb c k p l
  have h2 := canon_nrL arg1 harg1 arg2 harg2 x0 x1 (min 8 (c + 2)) (by omega) (row c p) (colN k l) (by simp only [row]; omega)
  simp only [h, h2]
  rfl

theorem v_apply (c : ℕ) (hc : c < 8) (k : Fin 40) (p : Fin 32) :
    vTile (yC arg1 harg1 arg2 harg2 arg3 harg3 arg4 x0 x1 x2 c k.val) (ix2 p 0)
      = Row.v (nrow x0 x1 (row c p)) (grow x2) k := by
  rw [vTile_apply, Row.v]
  simp only [yC_apply _ _ _ _ _ _ _ _ _ _ _ _ hc, colN_fin]

theorem grp_colN (k : ℕ) (hk : k < 40) (l : Fin 128) : Row.grp (colN k l) = ⟨k, hk⟩ :=
  Fin.ext (by simp only [Row.grp, colN]; omega)

/-- The codes stored. -/
theorem canon_codeL (y0 : Fin 256) (y1 : Fin 5120) :
    View.canon (codeL arg1 harg1 arg2 harg2 arg3 harg3 arg4 x0 x1 x2 8) (ix2 y0 y1)
      = Row.code (nrow x0 x1 y0) (grow x2) Expo.kInv y1 := by
  refine canon_allL (F := Ideal) (e := .fp8e4m3) _ (fun y => (Row.code (nrow x0 x1 (y 0)) (grow x2) Expo.kInv (y 1) : EReal)) 8 le_rfl ?_ y0 y1 (by omega)
  intro c hc k hk p l
  have hv := v_apply arg1 harg1 arg2 harg2 arg3 harg3 arg4 x0 x1 x2 c hc ⟨k, hk⟩ p
  rw [codeTile_apply, hv, yC_apply _ _ _ _ _ _ _ _ _ _ _ _ hc]
  show _ = Row.code (nrow x0 x1 (row c p)) (grow x2) Expo.kInv (colN k l)
  rw [Row.code, grp_colN k hk l]

theorem scC_apply (c : ℕ) (hc : c < 8) (k : Fin 40) (p : Fin 32) :
    scC arg1 harg1 arg2 harg2 arg3 harg3 arg4 x0 x1 x2 c (ix2 p ⟨k.val, by omega⟩)
      = Expo.kScale (Row.v (nrow x0 x1 (row c p)) (grow x2) k) := by
  rw [scC, scales_apply _ 40 le_rfl p ⟨k.val, by omega⟩ k.isLt, scaleTile_apply]
  exact congrArg _ (v_apply arg1 harg1 arg2 harg2 arg3 harg3 arg4 x0 x1 x2 c hc k p)

/-- The scales of the block, in the order of the concatenation. -/
theorem scAll_apply (q : Fin 256) (k : Fin 40) :
    scAll arg1 harg1 arg2 harg2 arg3 harg3 arg4 x0 x1 x2 (ix2 q ⟨k.val, by omega⟩)
      = Expo.kScale (Row.v (nrow x0 x1 q) (grow x2) k) := by
  have key : ∀ (c : ℕ) (hc : c < 8) (p : Fin 32) (h : q.val = 32 * c + p.val),
      scC arg1 harg1 arg2 harg2 arg3 harg3 arg4 x0 x1 x2 c (ix2 p ⟨k.val, by omega⟩)
        = Expo.kScale (Row.v (nrow x0 x1 q) (grow x2) k) := by
    intro c hc p h
    rw [scC_apply _ _ _ _ _ _ _ _ _ _ c hc k p]
    have : row c p = q := Fin.ext (by simp only [row]; omega)
    rw [this]
  unfold scAll
  pointwise []
  split_ifs <;> exact key _ (by omega) _ (by dsimp only; omega)

/-- The scales stored. -/
theorem canon_sc (a : Fin 1) (k : Fin 40) (q : Fin 256) :
    View.canon (Val := Elt Ideal) (s := S1x40x256) (e := .f32) [⟨Rect.unit (s := S1x40x256) ![0, 0, 0] ![1, 40, 256] inb_S1x40x256_S1x40x256_0_0_0,
        k0_pay1 (k0_pay2550 (scAll arg1 harg1 arg2 harg2 arg3 harg3 arg4 x0 x1 x2))⟩] (ix3 a k q)
      = Expo.kScale (Row.v (nrow x0 x1 q) (grow x2) k) := by
  have h : (Rect.unit (s := S1x40x256) ![0, 0, 0] ![1, 40, 256] inb_S1x40x256_S1x40x256_0_0_0).emb (ix3 a k q) = (ix3 a k q : S1x40x256.Idx) := by
    funext b
    apply Fin.ext
    rw [ValueKit.rect_emb_unit_val]
    fin_cases b <;> simp
  have := View.canon_cons_emb (Val := Elt Ideal) (e := .f32) (Rect.unit (s := S1x40x256) ![0, 0, 0] ![1, 40, 256] inb_S1x40x256_S1x40x256_0_0_0)
    (k0_pay1 (k0_pay2550 (scAll arg1 harg1 arg2 harg2 arg3 harg3 arg4 x0 x1 x2))) [] (ix3 a k q)
  rw [h] at this
  rw [this]
  pointwise [k0_pay1, k0_pay2550]
  exact scAll_apply arg1 harg1 arg2 harg2 arg3 harg3 arg4 x0 x1 x2 q k

/-! ## What the run leaves -/

theorem out3_apply (y0 : Fin 256) (y1 : Fin 5120) :
    out0_A_3 c i arg1 harg1 arg2 harg2 arg3 harg3 arg4 harg4 arg5 harg5 arg6 harg6 x0 x1 x2 (ix2 y0 y1) = nrow x0 x1 y0 y1 := by
  rw [out0_A_3, View.read_writes_junk_eq_canon, run3]
  exact canon_nrL arg1 harg1 arg2 harg2 x0 x1 8 le_rfl y0 y1 (by omega)

theorem out4_apply (y0 : Fin 256) (y1 : Fin 5120) :
    out0_A_4 c i arg1 harg1 arg2 harg2 arg3 harg3 arg4 harg4 arg5 harg5 arg6 harg6 x0 x1 x2 (ix2 y0 y1)
      = Row.code (nrow x0 x1 y0) (grow x2) Expo.kInv y1 := by
  rw [out0_A_4, View.read_writes_junk_eq_canon, run4]
  exact canon_codeL arg1 harg1 arg2 harg2 arg3 harg3 arg4 x0 x1 x2 y0 y1

theorem out5_apply (a : Fin 1) (k : Fin 40) (q : Fin 256) :
    out0_A_5 c i arg1 harg1 arg2 harg2 arg3 harg3 arg4 harg4 arg5 harg5 arg6 harg6 x0 x1 x2 (ix3 a k q)
      = Expo.kScale (Row.v (nrow x0 x1 q) (grow x2) k) := by
  rw [out0_A_5, View.read_writes_junk_eq_canon, run5]
  exact canon_sc arg1 harg1 arg2 harg2 arg3 harg3 arg4 x0 x1 x2 a k q

end body

end Cert.KernelIdeal.Blk
end
-- ==== Proof.KernelArrays.lean ====
/- What the kernel's region leaves in its three result arrays over the extended reals, from the arrays it reads. -/
module

public import proofs.«01_k».proof.Proof.BlockValue
public import Idealize.ShloMosaic.Lib.Pipeline.Covers

@[expose] public section

set_option maxRecDepth 16384

noncomputable section

namespace Cert.KernelIdeal.Arr

open Idealize.ShloMosaic Idealize.ShloMosaic.TcCoe Idealize.ShloMosaic.Tactic Cert.KernelIdeal Cert.KernelIdeal.Gen
open Cert.KernelIdeal.Blk

/-- Row `p` of the sum of the two flattened arrays. -/
def nrowA (A0 A1 : Vec Ideal S20480x5120 .bf16) (p : Fin 20480) : Fin 5120 → EReal :=
  fun j => (A0 (ix2 p j) : EReal) + (A1 (ix2 p j) : EReal)

variable (m : (ℓ : Loc nD τ sig) → Buf (Elt Ideal) ℓ) (c : Dev nD)

theorem idx : ∀ t : Fin cfg0.N, (cfg0.win 0).index t = ![t.val, 0] ∧ (cfg0.win 1).index t = ![t.val, 0] ∧ (cfg0.win 2).index t = ![0, 0]
    ∧ (cfg0.win 3).index t = ![t.val, 0] ∧ (cfg0.win 4).index t = ![t.val, 0] ∧ (cfg0.win 5).index t = ![t.val / 8, 0, t.val % 8] := by
  decide +kernel

/-- A block of the first operand at an index. -/
theorem read0 (A : Vec Ideal S20480x5120 .bf16) (t : Fin cfg0.N) (p : Fin 256) (j : Fin 5120) (q : Fin 20480) (h : q.val = 256 * t.val + p.val) :
    ((cfg0.win 0).blk t).view.read (Elt Ideal) A (ix2 p j) = A (ix2 q j) := by
  have e := (idx t).1
  blk_ext [e]
theorem read1 (A : Vec Ideal S20480x5120 .bf16) (t : Fin cfg0.N) (p : Fin 256) (j : Fin 5120) (q : Fin 20480) (h : q.val = 256 * t.val + p.val) :
    ((cfg0.win 1).blk t).view.read (Elt Ideal) A (ix2 p j) = A (ix2 q j) := by
  have e := (idx t).2.1
  blk_ext [e]
theorem read2 (A : Vec Ideal S1x5120 .f32) (t : Fin cfg0.N) (j : Fin 5120) :
    ((cfg0.win 2).blk t).view.read (Elt Ideal) A (ix2 0 j) = A (ix2 0 j) := by
  have e := (idx t).2.2.1
  blk_ext [e]

/-- The sum's rows in the blocks of point `t` are rows of the arrays. -/
theorem nrow_iblk (t : Fin cfg0.N) (p : Fin 256) (q : Fin 20480) (h : q.val = 256 * t.val + p.val) :
    nrow (iblk m c 0 t) (iblk m c 1 t) p = nrowA (V m c main_v0) (V m c main_v1) q := by
  funext j
  unfold nrow nrowA iblk
  exact congrArg₂ (· + ·) (read0 _ t p j q h) (read1 _ t p j q h)

theorem grow_iblk (t : Fin cfg0.N) : grow (iblk m c 2 t) = grow (V m c main_v3) := by
  funext j
  unfold grow iblk
  exact read2 _ t j

/-- The first result's array. -/
theorem arr3 : (dats m 0 c).arrAt 3 (cfgs 0).N
    = fun y : S20480x5120.Idx => nrowA (V m c main_v0) (V m c main_v1) (y 0) (y 1) := by
  refine (dats m 0 c).arrAt_eq_of_covers 3 _ (by decide +kernel) fun t hf y => ?_
  obtain ⟨-, -, -, e3, -⟩ := idx t
  have h0 : (((cfg0.win 3).blk t).view.emb y 0 : ℕ) = 256 * t.val + (y 0).val := by blk_simp [e3]; omega
  have h1 : (((cfg0.win 3).blk t).view.emb y 1 : ℕ) = (y 1).val := by blk_simp [e3]
  revert h0 h1
  generalize ((cfg0.win 3).blk t).view.emb y = z
  intro h0 h1
  blk_simp [e3]
  rw [after0_3]
  unfold outsAt0
  idx_vars y
  rw [out3_apply, nrow_iblk m c t y0 _ h0]
  exact congrArg _ (Fin.ext h1.symm)

/-- The second result's array. -/
theorem arr4 : (dats m 0 c).arrAt 4 (cfgs 0).N
    = fun y : S20480x5120.Idx => Row.code (nrowA (V m c main_v0) (V m c main_v1) (y 0)) (grow (V m c main_v3)) Expo.kInv (y 1) := by
  refine (dats m 0 c).arrAt_eq_of_covers 4 _ (by decide +kernel) fun t hf y => ?_
  obtain ⟨-, -, -, -, e4, -⟩ := idx t
  have h0 : (((cfg0.win 4).blk t).view.emb y 0 : ℕ) = 256 * t.val + (y 0).val := by blk_simp [e4]; omega
  have h1 : (((cfg0.win 4).blk t).view.emb y 1 : ℕ) = (y 1).val := by blk_simp [e4]
  revert h0 h1
  generalize ((cfg0.win 4).blk t).view.emb y = z
  intro h0 h1
  blk_simp [e4]
  rw [after0_4]
  unfold outsAt0
  idx_vars y
  rw [out4_apply, nrow_iblk m c t y0 _ h0, grow_iblk]
  exact congrArg _ (Fin.ext h1.symm)

/-- The third result's array. -/
theorem arr5 : (dats m 0 c).arrAt 5 (cfgs 0).N
    = fun y : S10x40x2048.Idx => Expo.kScale (Row.v (nrowA (V m c main_v0) (V m c main_v1) ⟨2048 * (y 0).val + (y 2).val, by
        have := (y 0).isLt; have := (y 2).isLt; simp at *; omega⟩) (grow (V m c main_v3)) (y 1)) := by
  refine (dats m 0 c).arrAt_eq_of_covers 5 _ (by decide +kernel) fun t hf y => ?_
  obtain ⟨-, -, -, -, -, e5⟩ := idx t
  have h0 : (((cfg0.win 5).blk t).view.emb y 0 : ℕ) = t.val / 8 + (y 0).val := by blk_simp [e5]
  have h1 : (((cfg0.win 5).blk t).view.emb y 1 : ℕ) = (y 1).val := by blk_simp [e5]
  have h2 : (((cfg0.win 5).blk t).view.emb y 2 : ℕ) = 256 * (t.val % 8) + (y 2).val := by blk_simp [e5]; omega
  revert h0 h1 h2
  generalize ((cfg0.win 5).blk t).view.emb y = z
  intro h0 h1 h2
  blk_simp [e5]
  rw [after0_5]
  unfold outsAt0
  idx_vars y
  have hy0 := y0.isLt
  rw [out5_apply, nrow_iblk m c t y2 ⟨2048 * (z 0).val + (z 2).val, by
    have := (z 0).isLt; have := (z 2).isLt; simp at *; omega⟩ (by simp only [h0, h2]; simp; omega), grow_iblk]
  exact congrArg (fun k => Expo.kScale (Row.v _ _ k)) (Fin.ext h1.symm)

end Cert.KernelIdeal.Arr
end
-- ==== Proof.KernelRun.lean ====
/- What the kernel's program ends with over the extended reals, as functions of its arguments. -/
module

public import proofs.«01_k».proof.Proof.KernelArrays

@[expose] public section

set_option maxRecDepth 16384

noncomputable section

namespace Cert.KernelIdeal.Arr

open Idealize.ShloMosaic Idealize.ShloMosaic.TcCoe Idealize.ShloMosaic.Tactic Cert.KernelIdeal Cert.KernelIdeal.Gen
open Cert.KernelIdeal.Blk

/-- A token's row of the sum of the two inputs. -/
def nr (X R : Vec Ideal S10x2048x5120 .bf16) (a : Fin 10) (p : Fin 2048) : Fin 5120 → EReal :=
  fun j => (X (ix3 a p j) : EReal) + (R (ix3 a p j) : EReal)
/-- The gain. -/
def gain (G : Vec Ideal S5120 .bf16) : Fin 5120 → EReal := fun j => G (ix1 j)

/-- The sums. -/
def res0 (X R : Vec Ideal S10x2048x5120 .bf16) : Vec Ideal S10x2048x5120 .bf16 := fun y => nr X R (y 0) (y 1) (y 2)
/-- The codes. -/
def res1 (X R : Vec Ideal S10x2048x5120 .bf16) (G : Vec Ideal S5120 .bf16) : Vec Ideal S10x2048x5120 .fp8e4m3 :=
  fun y => Row.code (nr X R (y 0) (y 1)) (gain G) Expo.kInv (y 2)
/-- The scales. -/
def res2 (X R : Vec Ideal S10x2048x5120 .bf16) (G : Vec Ideal S5120 .bf16) : Vec Ideal S10x2048x40 .f32 :=
  fun y => Expo.kScale (Row.v (nr X R (y 0) (y 1)) (gain G) (y 2))

variable (m : (ℓ : Loc nD τ sig) → Buf (Elt Ideal) ℓ) (c : Dev nD) (ρ : Dev nD → PrngReg)

/-! ## The operations before the region -/

theorem entry0 (σ : Valuation τ sig (Elt Ideal)) :
    (StableHlo.after hostOps0 σ (Proc.devRef .tc main_v0) : Vec Ideal S20480x5120 .bf16)
      = shapeCast S20480x5120 (σ (Proc.devRef .tc main_arg0) : Vec Ideal S10x2048x5120 .bf16) shapeCasts_S10x2048x5120_S20480x5120 := by
  simp only [hostOps0]
  after_results
  try rfl
theorem entry1 (σ : Valuation τ sig (Elt Ideal)) :
    (StableHlo.after hostOps0 σ (Proc.devRef .tc main_v1) : Vec Ideal S20480x5120 .bf16)
      = shapeCast S20480x5120 (σ (Proc.devRef .tc main_arg1) : Vec Ideal S10x2048x5120 .bf16) shapeCasts_S10x2048x5120_S20480x5120 := by
  simp only [hostOps0]
  after_results
  try rfl
theorem entry3 (σ : Valuation τ sig (Elt Ideal)) :
    (StableHlo.after hostOps0 σ (Proc.devRef .tc main_v3) : Vec Ideal S1x5120 .f32)
      = shapeCast S1x5120 ((extf .f32 (σ (Proc.devRef .tc main_arg2) : FVec Ideal S5120 .bf16) bitsLt_bf16_f32 : FVec Ideal S5120 .f32) : Vec Ideal S5120 .f32) shapeCasts_S5120_S1x5120 := by
  simp only [hostOps0]
  after_results
  try rfl

/-! ## The operations after the region -/

theorem tail5 (σ : Valuation τ sig (Elt Ideal)) :
    (StableHlo.after hostOps1 σ (Proc.devRef .tc main_v5) : Vec Ideal S10x2048x5120 .bf16)
      = shapeCast S10x2048x5120 (σ (Proc.devRef .tc main_v4_0) : Vec Ideal S20480x5120 .bf16) shapeCasts_S20480x5120_S10x2048x5120 := by
  simp only [hostOps1]
  after_results
  try rfl
theorem tail6 (σ : Valuation τ sig (Elt Ideal)) :
    (StableHlo.after hostOps1 σ (Proc.devRef .tc main_v6) : Vec Ideal S10x2048x5120 .fp8e4m3)
      = shapeCast S10x2048x5120 (σ (Proc.devRef .tc main_v4_1) : Vec Ideal S20480x5120 .fp8e4m3) shapeCasts_S20480x5120_S10x2048x5120 := by
  simp only [hostOps1]
  after_results
  try rfl
theorem tail7 (σ : Valuation τ sig (Elt Ideal)) :
    (StableHlo.after hostOps1 σ (Proc.devRef .tc main_v7) : Vec Ideal S10x2048x40 .f32)
      = transpose S10x2048x40 [0, 2, 1] (σ (Proc.devRef .tc main_v4_2) : Vec Ideal S10x40x2048 .f32) transposes_S10x40x2048_S10x2048x40_0_2_1 := by
  simp only [hostOps1]
  after_results
  try rfl

section through
variable (σ : Valuation τ sig (Elt Ideal)) (A : (w : Fin cfg0.W) → Buf (Elt Ideal) ((spec0 w).arr.view.loc (c.tc : Thread nD τ)))

theorem through3 : Pipeline.withArrays spec0 c σ A (Proc.devRef .tc main_v4_0) = A 3 :=
  Pipeline.withArrays_arr spec0 launch0.win.arr_inj c σ A 3
theorem through4 : Pipeline.withArrays spec0 c σ A (Proc.devRef .tc main_v4_1) = A 4 :=
  Pipeline.withArrays_arr spec0 launch0.win.arr_inj c σ A 4
theorem through5 : Pipeline.withArrays spec0 c σ A (Proc.devRef .tc main_v4_2) = A 5 :=
  Pipeline.withArrays_arr spec0 launch0.win.arr_inj c σ A 5
end through

/-! ## The arrays the region reads, as functions of the arguments -/

/-- A flattened array at an index. -/
theorem flat_apply (X : Vec Ideal S10x2048x5120 .bf16) (q : Fin 20480) (j : Fin 5120) (a : Fin 10) (p : Fin 2048) (h : q.val = 2048 * a.val + p.val) :
    (shapeCast S20480x5120 X shapeCasts_S10x2048x5120_S20480x5120) (ix2 q j) = X (ix3 a p j) := by
  have ha : (⟨q.val / 2048, by omega⟩ : Fin 10) = a := Fin.ext (by simp only; omega)
  have hp : (⟨q.val % 2048, by omega⟩ : Fin 2048) = p := Fin.ext (by simp only; omega)
  pointwise []
  rw [ha, hp]

theorem nrowA_eq (a : Fin 10) (p : Fin 2048) (q : Fin 20480) (h : q.val = 2048 * a.val + p.val) :
    nrowA (V m c main_v0) (V m c main_v1) q = nr (m ((c.tc : Thread nD τ).loc main_arg0)) (m ((c.tc : Thread nD τ).loc main_arg1)) a p := by
  funext j
  unfold nrowA nr
  exact congrArg₂ (· + ·)
    ((congrFun (entry0 (fun b => m (c, b))) (ix2 q j)).trans (flat_apply _ q j a p h))
    ((congrFun (entry1 (fun b => m (c, b))) (ix2 q j)).trans (flat_apply _ q j a p h))

/-- The widened gain laid out as one row, at an index. -/
theorem gain_apply (G : FVec Ideal S5120 .bf16) (j : Fin 5120) :
    (shapeCast S1x5120 (extf .f32 G bitsLt_bf16_f32 : FVec Ideal S5120 .f32) shapeCasts_S5120_S1x5120) (ix2 0 j) = G (ix1 j) := by
  pointwise []

theorem grow_eq : grow (V m c main_v3) = gain (m ((c.tc : Thread nD τ).loc main_arg2)) := by
  funext j
  unfold grow gain
  exact (congrFun (entry3 (fun b => m (c, b))) (ix2 0 j)).trans (gain_apply _ j)

/-! ## The results -/

theorem W_main_v5 :
    Pipeline.afterTail₀ cfgs (dats m) 0 (V0 m) [hostOps1] c main_v5
      = res0 (m ((c.tc : Thread nD τ).loc main_arg0)) (m ((c.tc : Thread nD τ).loc main_arg1)) := by
  refine (tail5 _).trans ?_
  rw [through3, arr3]
  funext y
  idx_vars y
  pointwise []
  rw [nrowA_eq m c y0 y1 _ (by simp only; omega)]
  rfl

theorem W_main_v6 :
    Pipeline.afterTail₀ cfgs (dats m) 0 (V0 m) [hostOps1] c main_v6
      = res1 (m ((c.tc : Thread nD τ).loc main_arg0)) (m ((c.tc : Thread nD τ).loc main_arg1)) (m ((c.tc : Thread nD τ).loc main_arg2)) := by
  refine (tail6 _).trans ?_
  rw [through4, arr4]
  funext y
  idx_vars y
  pointwise []
  rw [nrowA_eq m c y0 y1 _ (by simp only; omega), grow_eq]
  rfl

theorem W_main_v7 :
    Pipeline.afterTail₀ cfgs (dats m) 0 (V0 m) [hostOps1] c main_v7
      = res2 (m ((c.tc : Thread nD τ).loc main_arg0)) (m ((c.tc : Thread nD τ).loc main_arg1)) (m ((c.tc : Thread nD τ).loc main_arg2)) := by
  refine (tail7 _).trans ?_
  rw [through5, arr5]
  funext y
  idx_vars y
  pointwise []
  rw [nrowA_eq m c y0 y1 _ (by simp), grow_eq]
  rfl

/-- Every run of the kernel's program ends with the three results at `res0`, `res1`, `res2` of its arguments, and the
    arguments unchanged. -/
theorem run : θ_run defs (onTc (τ := τ) (main (F := Ideal))) ⟨m, fun _ => 0, ρ⟩ (fun r => ∀ c : Dev nD,
      r.2.mem ((c.tc : Thread nD τ).loc main_v5) = res0 (m ((c.tc : Thread nD τ).loc main_arg0)) (m ((c.tc : Thread nD τ).loc main_arg1))
      ∧ r.2.mem ((c.tc : Thread nD τ).loc main_v6) = res1 (m ((c.tc : Thread nD τ).loc main_arg0)) (m ((c.tc : Thread nD τ).loc main_arg1)) (m ((c.tc : Thread nD τ).loc main_arg2))
      ∧ r.2.mem ((c.tc : Thread nD τ).loc main_v7) = res2 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v5 (Pipeline.mem_restRefs_of main_v5 (by decide) (by decide))).trans (W_main_v5 m c),
     ((h.1 c).2 main_v6 (Pipeline.mem_restRefs_of main_v6 (by decide) (by decide))).trans (W_main_v6 m c),
     ((h.1 c).2 main_v7 (Pipeline.mem_restRefs_of main_v7 (by decide) (by decide))).trans (W_main_v7 m c), h.2 c⟩)
    (θ_run_and (run_main m ρ) (unchanged m ρ))

end Cert.KernelIdeal.Arr
end
-- ==== Proof.RefBlock.lean ====
/- What the reference's body leaves in its three result arrays over the extended reals, from the arrays it reads. -/
module

public import proofs.«01_k».proof.Proof.Row
public import proofs.«01_k».proof.Proof.Gen.ReferenceIdeal.Frame
public import Idealize.ShloMosaic.Lib.Pipeline.ValueKit

@[expose] public section

set_option maxRecDepth 16384

noncomputable section

namespace Cert.ReferenceIdeal.Blk

open Idealize.ShloMosaic Idealize.ShloMosaic.TcCoe Idealize.ShloMosaic.Tactic Cert.ReferenceIdeal Cert.ReferenceIdeal.Gen

variable (x0 x1 : Vec Ideal S20480x5120 .bf16) (x2 : Vec Ideal S1x5120 .bf16)

/-- Row `p` of the sum of the two arrays. -/
def nrow (p : Fin 20480) : Fin 5120 → EReal :=
  fun j => (x0 (ix2 p j) : EReal) + (x1 (ix2 p j) : EReal)
/-- The gain. -/
def grow : Fin 5120 → EReal := fun j => x2 (ix2 0 j)

theorem nr_apply (p : Fin 20480) (j : Fin 5120) : k0_pay3 (F := Ideal) x0 x1 (ix2 p j) = nrow x0 x1 p j := by
  pointwise [k0_pay3]
  rfl

theorem ofBits_5120 : Ideal.ofBits .f32 0x45A00000#32 = ((5120 : ℝ) : EReal) := by
  simp only [Ideal.ofBits, Ideal.ieee]
  simp
  rw [← EReal.coe_mul]
  norm_num

/-- Division by 5120 is multiplication by its inverse. -/
theorem div_5120 (a : EReal) : Ideal.div a ((5120 : ℝ) : EReal) = a * (((1 / (5120 : ℕ) : ℝ) : ℝ) : EReal) := by
  have h : ((5120 : ℝ) : EReal) ≠ 0 := by
    rw [← EReal.coe_zero]; exact fun h => by have := EReal.coe_injective h; norm_num at this
  rw [Ideal.div, if_neg h, ← EReal.coe_inv]
  norm_num

theorem y_apply (p : Fin 20480) (k : Fin 40) (l : Fin 128) :
    k0_pay4 (F := Ideal) x0 x1 x2 (ix3 p k l) = Row.y (nrow x0 x1 p) (grow x2) (Row.col k l) := by
  have hc : (⟨k.val * 128 + l.val, by omega⟩ : Fin 5120) = Row.col k l := Fin.ext (by simp only [Row.col]; omega)
  pointwise [k0_pay4]
  rw [hc]
  simp only [nr_apply]
  rw [ofBits_5120]
  rw [div_5120]
  unfold Row.y Expo.rms grow
  rfl

/-- The scaled maximum of each group of an array of groups. -/
def vC (Y : FVec Ideal S20480x40x128 .f32) : FVec Ideal S20480x40 .f32 :=
  mulf (multiReduction .maximumf [2] S20480x40 (absf Y) 0xFF800000#32 reduces_S20480x40x128_S20480x40 (.inl rfl) rfl)
    (broadcast S20480x40 (Scalar.ofBits .f32 0x3B124925#32))

/-- The exponent of each scaled maximum. -/
def eC (v : FVec Ideal S20480x40 .f32) : FVec Ideal S20480x40 .f32 :=
  select (cmpf .olt v (broadcast S20480x40 (Scalar.ofBits .f32 0x00800000#32))) (broadcast S20480x40 (Scalar.ofBits .f32 0x00000000#32))
    (addf (floor (mulf (log v) (broadcast S20480x40 (Named.named κ "inv_ln2" 0x3FB8AA3B#32)))) (broadcast S20480x40 (Scalar.ofBits .f32 0x3F800000#32)))

theorem pay5_eq : k0_pay5 (F := Ideal) x0 x1 x2 = eC (vC (k0_pay4 (F := Ideal) x0 x1 x2)) := rfl

/-- A maximum along the last of three axes, at an index. -/
theorem max_last {n0 n1 n2 : ℕ} (Y : FVec Ideal ⟨3, ![n0, n1, n2]⟩ .f32) (h : (⟨3, ![n0, n1, n2]⟩ : Shape).Reduces [2] ⟨2, ![n0, n1]⟩)
    (hφ : FKind.Formats .f32) (hacc : 0xFF800000#32 = FKind.maximumf.neutral .f32 hφ) (p : Fin n0) (k : Fin n1) :
    multiReduction .maximumf [2] ⟨2, ![n0, n1]⟩ Y 0xFF800000#32 h hφ hacc (ix2 p k)
      = Finset.univ.fold max (Ideal.ofBits .f32 0xFF800000#32) fun l : Fin n2 => (Y (ix3 p k l) : EReal) := by
  rw [multiReduction_maximumf_eq_fold, h.fold_fiber_r3_a2]
  rfl

theorem mul_at {s : Shape} (A B : FVec Ideal s .f32) (i : s.Idx) : mulf A B i = (A i * B i : EReal) := rfl
theorem abs_at {s : Shape} (A : FVec Ideal s .f32) (i : s.Idx) : absf A i = (max (A i) (-(A i)) : EReal) := rfl

theorem vC_apply (Y : FVec Ideal S20480x40x128 .f32) (p : Fin 20480) (k : Fin 40) :
    vC Y (ix2 p k) = (Finset.univ.fold max (Ideal.ofBits .f32 0xFF800000#32) fun l : Fin 128 => max (Y (ix3 p k l)) (-(Y (ix3 p k l))))
    * Ideal.ofBits .f32 0x3B124925#32 := by
  have h := max_last (absf Y) reduces_S20480x40x128_S20480x40 (.inl rfl) rfl p k
  rw [vC, mul_at, h]
  simp only [abs_at]
  rfl

theorem inv_ln2 : (Named.named κ "inv_ln2" 0x3FB8AA3B#32 : Ideal .f32) = (((Real.log 2)⁻¹ : ℝ) : EReal) := by
  simp [Named.named, κ]

theorem eC_apply (v : FVec Ideal S20480x40 .f32) (p : Fin 20480) (k : Fin 40) : eC v (ix2 p k) = Expo.rExp (v (ix2 p k)) := by
  pointwise [eC]
  unfold Expo.rExp
  rw [inv_ln2]
  simp only [Ideal.cmp, Scalar.select]
  by_cases h : v (ix2 p k) < Ideal.ofBits FTy.f32 0x00800000#32 <;> simp [h]

theorem v_apply (p : Fin 20480) (k : Fin 40) :
    vC (k0_pay4 (F := Ideal) x0 x1 x2) (ix2 p k) = Row.v (nrow x0 x1 p) (grow x2) k := by
  rw [vC_apply]
  simp only [y_apply]
  rfl

theorem e_apply (p : Fin 20480) (k : Fin 40) :
    k0_pay5 (F := Ideal) x0 x1 x2 (ix2 p k) = Expo.rExp (Row.v (nrow x0 x1 p) (grow x2) k) := by
  rw [pay5_eq, eC_apply, v_apply]

theorem pay2_at (E : FVec Ideal S20480x40 .f32) (i : S20480x40.Idx) : k0_pay2 E i = Ideal.exp2 (E i) := rfl

theorem scale_apply (p : Fin 20480) (k : Fin 40) :
    k0_pay2 (k0_pay5 (F := Ideal) x0 x1 x2) (ix2 p k) = Expo.rScale (Row.v (nrow x0 x1 p) (grow x2) k) := by
  rw [pay2_at, e_apply]
  rfl

/-- The inverse scale of each group, at each of its columns. -/
def invC (E : FVec Ideal S20480x40 .f32) : FVec Ideal S20480x40x128 .f32 :=
  broadcastTo S20480x40x128 (shapeCast S20480x40x1 (exp2 (subf (broadcast S20480x40 (Scalar.ofBits .f32 0x00000000#32)) E)) shapeCasts_S20480x40_S20480x40x1)
    broadcasts_S20480x40x1_S20480x40x128

theorem pay6_eq : k0_pay6 (F := Ideal) x0 x1 x2 = invC (k0_pay5 (F := Ideal) x0 x1 x2) := rfl

theorem invC_apply (E : FVec Ideal S20480x40 .f32) (p : Fin 20480) (k : Fin 40) (l : Fin 128) :
    invC E (ix3 p k l) = Ideal.exp2 ((0 : EReal) - E (ix2 p k)) := by
  pointwise [invC]
  rfl

theorem inv_apply (p : Fin 20480) (k : Fin 40) (l : Fin 128) :
    k0_pay6 (F := Ideal) x0 x1 x2 (ix3 p k l) = Expo.rInv (Row.v (nrow x0 x1 p) (grow x2) k) := by
  rw [pay6_eq, invC_apply, e_apply]
  rfl

theorem pay1_apply (Y I : FVec Ideal S20480x40x128 .f32) (p : Fin 20480) (j : Fin 5120) :
    k0_pay1 Y I (ix2 p j) = min (Ideal.ofBits .f32 0x43E00000#32) (max (Ideal.ofBits .f32 0xC3E00000#32)
      (Y (ix3 p (Row.grp j) (Row.lane j)) * I (ix3 p (Row.grp j) (Row.lane j)))) := by
  have hg : (⟨j.val / 128, by omega⟩ : Fin 40) = Row.grp j := rfl
  have hl : (⟨j.val % 128, by omega⟩ : Fin 128) = Row.lane j := rfl
  pointwise [k0_pay1]
  rfl

theorem code_apply (p : Fin 20480) (j : Fin 5120) :
    k0_pay1 (k0_pay4 (F := Ideal) x0 x1 x2) (k0_pay6 (F := Ideal) x0 x1 x2) (ix2 p j)
      = Row.code (nrow x0 x1 p) (grow x2) Expo.rInv j := by
  rw [pay1_apply, y_apply, inv_apply, Row.col_grp_lane]
  rfl

/-! ## What the body leaves -/

theorem out3_apply (p : Fin 20480) (j : Fin 5120) : out0_3 x0 x1 x2 (ix2 p j) = nrow x0 x1 p j := by
  frame_out
  exact nr_apply x0 x1 p j

theorem out4_apply (p : Fin 20480) (j : Fin 5120) : out0_4 x0 x1 x2 (ix2 p j) = Row.code (nrow x0 x1 p) (grow x2) Expo.rInv j := by
  frame_out
  exact code_apply x0 x1 x2 p j

theorem out5_apply (p : Fin 20480) (k : Fin 40) : out0_5 x0 x1 x2 (ix2 p k) = Expo.rScale (Row.v (nrow x0 x1 p) (grow x2) k) := by
  frame_out
  exact scale_apply x0 x1 x2 p k

end Cert.ReferenceIdeal.Blk
end
-- ==== Proof.RefRun.lean ====
/- What the reference's program ends with over the extended reals, as functions of its arguments. -/
module

public import proofs.«01_k».proof.Proof.RefBlock

@[expose] public section

set_option maxRecDepth 16384

noncomputable section

namespace Cert.ReferenceIdeal.Arr

open Idealize.ShloMosaic Idealize.ShloMosaic.TcCoe Idealize.ShloMosaic.Tactic Cert.ReferenceIdeal Cert.ReferenceIdeal.Gen
open Cert.ReferenceIdeal.Blk

/-- A token's row of the sum of the two inputs. -/
def nr (X R : Vec Ideal S10x2048x5120 .bf16) (a : Fin 10) (p : Fin 2048) : Fin 5120 → EReal :=
  fun j => (X (ix3 a p j) : EReal) + (R (ix3 a p j) : EReal)
/-- The gain. -/
def gain (G : Vec Ideal S5120 .bf16) : Fin 5120 → EReal := fun j => G (ix1 j)

/-- The sums. -/
def res0 (X R : Vec Ideal S10x2048x5120 .bf16) : Vec Ideal S10x2048x5120 .bf16 := fun y => nr X R (y 0) (y 1) (y 2)
/-- The codes. -/
def res1 (X R : Vec Ideal S10x2048x5120 .bf16) (G : Vec Ideal S5120 .bf16) : Vec Ideal S10x2048x5120 .fp8e4m3 :=
  fun y => Row.code (nr X R (y 0) (y 1)) (gain G) Expo.rInv (y 2)
/-- The scales. -/
def res2 (X R : Vec Ideal S10x2048x5120 .bf16) (G : Vec Ideal S5120 .bf16) : Vec Ideal S10x2048x40 .f32 :=
  fun y => Expo.rScale (Row.v (nr X R (y 0) (y 1)) (gain G) (y 2))

variable (m : (ℓ : Loc nD τ sig) → Buf (Elt Ideal) ℓ) (c : Dev nD) (ρ : Dev nD → PrngReg)

/-! ## The blocks: the whole arrays -/

theorem idx : ∀ t : Fin cfg0.N, (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] := by
  decide +kernel

theorem read0 (A : Vec Ideal S20480x5120 .bf16) (t : Fin cfg0.N) (p : Fin 20480) (j : Fin 5120) :
    ((cfg0.win 0).blk t).view.read (Elt Ideal) A (ix2 p j) = A (ix2 p j) := by
  have e := (idx t).1
  blk_ext [e]
theorem read1 (A : Vec Ideal S20480x5120 .bf16) (t : Fin cfg0.N) (p : Fin 20480) (j : Fin 5120) :
    ((cfg0.win 1).blk t).view.read (Elt Ideal) A (ix2 p j) = A (ix2 p j) := by
  have e := (idx t).2.1
  blk_ext [e]
theorem read2 (A : Vec Ideal S1x5120 .bf16) (t : Fin cfg0.N) (j : Fin 5120) :
    ((cfg0.win 2).blk t).view.read (Elt Ideal) A (ix2 0 j) = A (ix2 0 j) := by
  have e := (idx t).2.2.1
  blk_ext [e]

theorem nrow_iblk (t : Fin cfg0.N) (p : Fin 20480) :
    nrow (iblk m c 0 t) (iblk m c 1 t) p = nrow (V m c main_v0) (V m c main_v1) p := by
  funext j
  unfold nrow iblk
  exact congrArg₂ (· + ·) (read0 _ t p j) (read1 _ t p j)

theorem grow_iblk (t : Fin cfg0.N) : grow (iblk m c 2 t) = grow (V m c main_v2) := by
  funext j
  unfold grow iblk
  exact read2 _ t j

/-! ## The arrays after the region -/

theorem arr3 : (dats m 0 c).arrAt 3 (cfgs 0).N
    = fun y : S20480x5120.Idx => nrow (V m c main_v0) (V m c main_v1) (y 0) (y 1) := by
  refine (dats m 0 c).arrAt_eq_of_covers 3 _ (by decide +kernel) fun t hf y => ?_
  obtain ⟨-, -, -, e3, -⟩ := idx t
  have h0 : (((cfg0.win 3).blk t).view.emb y 0 : ℕ) = (y 0).val := by blk_simp [e3]
  have h1 : (((cfg0.win 3).blk t).view.emb y 1 : ℕ) = (y 1).val := by blk_simp [e3]
  revert h0 h1
  generalize ((cfg0.win 3).blk t).view.emb y = z
  intro h0 h1
  blk_simp [e3]
  rw [after0_3]
  idx_vars y
  rw [out3_apply, nrow_iblk m c t y0]
  exact congrArg₂ (fun p j => nrow (V m c main_v0) (V m c main_v1) p j) (Fin.ext h0.symm) (Fin.ext h1.symm)

theorem arr4 : (dats m 0 c).arrAt 4 (cfgs 0).N
    = fun y : S20480x5120.Idx => Row.code (nrow (V m c main_v0) (V m c main_v1) (y 0)) (grow (V m c main_v2)) Expo.rInv (y 1) := by
  refine (dats m 0 c).arrAt_eq_of_covers 4 _ (by decide +kernel) fun t hf y => ?_
  obtain ⟨-, -, -, -, e4, -⟩ := idx t
  have h0 : (((cfg0.win 4).blk t).view.emb y 0 : ℕ) = (y 0).val := by blk_simp [e4]
  have h1 : (((cfg0.win 4).blk t).view.emb y 1 : ℕ) = (y 1).val := by blk_simp [e4]
  revert h0 h1
  generalize ((cfg0.win 4).blk t).view.emb y = z
  intro h0 h1
  blk_simp [e4]
  rw [after0_4]
  idx_vars y
  rw [out4_apply, nrow_iblk m c t y0, grow_iblk]
  exact congrArg₂ (fun p j => Row.code (nrow (V m c main_v0) (V m c main_v1) p) (grow (V m c main_v2)) Expo.rInv j) (Fin.ext h0.symm) (Fin.ext h1.symm)

theorem arr5 : (dats m 0 c).arrAt 5 (cfgs 0).N
    = fun y : S20480x40.Idx => Expo.rScale (Row.v (nrow (V m c main_v0) (V m c main_v1) (y 0)) (grow (V m c main_v2)) (y 1)) := by
  refine (dats m 0 c).arrAt_eq_of_covers 5 _ (by decide +kernel) fun t hf y => ?_
  obtain ⟨-, -, -, -, -, e5⟩ := idx t
  have h0 : (((cfg0.win 5).blk t).view.emb y 0 : ℕ) = (y 0).val := by blk_simp [e5]
  have h1 : (((cfg0.win 5).blk t).view.emb y 1 : ℕ) = (y 1).val := by blk_simp [e5]
  revert h0 h1
  generalize ((cfg0.win 5).blk t).view.emb y = z
  intro h0 h1
  blk_simp [e5]
  rw [after0_5]
  idx_vars y
  rw [out5_apply, nrow_iblk m c t y0, grow_iblk]
  exact congrArg₂ (fun p k => Expo.rScale (Row.v (nrow (V m c main_v0) (V m c main_v1) p) (grow (V m c main_v2)) k)) (Fin.ext h0.symm) (Fin.ext h1.symm)

/-! ## The operations before the region -/

theorem entry0 (σ : Valuation τ sig (Elt Ideal)) :
    (StableHlo.after hostOps0 σ (Proc.devRef .tc main_v0) : Vec Ideal S20480x5120 .bf16)
      = shapeCast S20480x5120 (σ (Proc.devRef .tc main_arg0) : Vec Ideal S10x2048x5120 .bf16) shapeCasts_S10x2048x5120_S20480x5120 := by
  simp only [hostOps0]
  after_results
  try rfl
theorem entry1 (σ : Valuation τ sig (Elt Ideal)) :
    (StableHlo.after hostOps0 σ (Proc.devRef .tc main_v1) : Vec Ideal S20480x5120 .bf16)
      = shapeCast S20480x5120 (σ (Proc.devRef .tc main_arg1) : Vec Ideal S10x2048x5120 .bf16) shapeCasts_S10x2048x5120_S20480x5120 := by
  simp only [hostOps0]
  after_results
  try rfl
theorem entry2 (σ : Valuation τ sig (Elt Ideal)) :
    (StableHlo.after hostOps0 σ (Proc.devRef .tc main_v2) : Vec Ideal S1x5120 .bf16)
      = shapeCast S1x5120 (σ (Proc.devRef .tc main_arg2) : Vec Ideal S5120 .bf16) shapeCasts_S5120_S1x5120 := by
  simp only [hostOps0]
  after_results
  try rfl

/-! ## The operations after the region -/

theorem tail4 (σ : Valuation τ sig (Elt Ideal)) :
    (StableHlo.after hostOps1 σ (Proc.devRef .tc main_v4) : Vec Ideal S10x2048x5120 .bf16)
      = shapeCast S10x2048x5120 (σ (Proc.devRef .tc main_v3_0) : Vec Ideal S20480x5120 .bf16) shapeCasts_S20480x5120_S10x2048x5120 := by
  simp only [hostOps1]
  after_results
  try rfl
theorem tail5 (σ : Valuation τ sig (Elt Ideal)) :
    (StableHlo.after hostOps1 σ (Proc.devRef .tc main_v5) : Vec Ideal S10x2048x5120 .fp8e4m3)
      = shapeCast S10x2048x5120 (σ (Proc.devRef .tc main_v3_1) : Vec Ideal S20480x5120 .fp8e4m3) shapeCasts_S20480x5120_S10x2048x5120 := by
  simp only [hostOps1]
  after_results
  try rfl
theorem tail6 (σ : Valuation τ sig (Elt Ideal)) :
    (StableHlo.after hostOps1 σ (Proc.devRef .tc main_v6) : Vec Ideal S10x2048x40 .f32)
      = shapeCast S10x2048x40 (σ (Proc.devRef .tc main_v3_2) : Vec Ideal S20480x40 .f32) shapeCasts_S20480x40_S10x2048x40 := by
  simp only [hostOps1]
  after_results
  try rfl

section through
variable (σ : Valuation τ sig (Elt Ideal)) (A : (w : Fin cfg0.W) → Buf (Elt Ideal) ((spec0 w).arr.view.loc (c.tc : Thread nD τ)))

theorem through3 : Pipeline.withArrays spec0 c σ A (Proc.devRef .tc main_v3_0) = A 3 :=
  Pipeline.withArrays_arr spec0 launch0.win.arr_inj c σ A 3
theorem through4 : Pipeline.withArrays spec0 c σ A (Proc.devRef .tc main_v3_1) = A 4 :=
  Pipeline.withArrays_arr spec0 launch0.win.arr_inj c σ A 4
theorem through5 : Pipeline.withArrays spec0 c σ A (Proc.devRef .tc main_v3_2) = A 5 :=
  Pipeline.withArrays_arr spec0 launch0.win.arr_inj c σ A 5
end through

/-! ## The arrays the region reads, as functions of the arguments -/

/-- A flattened array at an index. -/
theorem flat_apply (X : Vec Ideal S10x2048x5120 .bf16) (q : Fin 20480) (j : Fin 5120) (a : Fin 10) (p : Fin 2048) (h : q.val = 2048 * a.val + p.val) :
    (shapeCast S20480x5120 X shapeCasts_S10x2048x5120_S20480x5120) (ix2 q j) = X (ix3 a p j) := by
  have ha : (⟨q.val / 2048, by omega⟩ : Fin 10) = a := Fin.ext (by simp only; omega)
  have hp : (⟨q.val % 2048, by omega⟩ : Fin 2048) = p := Fin.ext (by simp only; omega)
  pointwise []
  rw [ha, hp]

theorem nrow_eq (a : Fin 10) (p : Fin 2048) (q : Fin 20480) (h : q.val = 2048 * a.val + p.val) :
    nrow (V m c main_v0) (V m c main_v1) q = nr (m ((c.tc : Thread nD τ).loc main_arg0)) (m ((c.tc : Thread nD τ).loc main_arg1)) a p := by
  funext j
  unfold nrow nr
  exact congrArg₂ (· + ·)
    ((congrFun (entry0 (fun b => m (c, b))) (ix2 q j)).trans (flat_apply _ q j a p h))
    ((congrFun (entry1 (fun b => m (c, b))) (ix2 q j)).trans (flat_apply _ q j a p h))

/-- The gain laid out as one row, at an index. -/
theorem gain_apply (G : Vec Ideal S5120 .bf16) (j : Fin 5120) :
    (shapeCast S1x5120 G shapeCasts_S5120_S1x5120) (ix2 0 j) = G (ix1 j) := by
  pointwise []

theorem grow_eq : grow (V m c main_v2) = gain (m ((c.tc : Thread nD τ).loc main_arg2)) := by
  funext j
  unfold grow gain
  exact (congrFun (entry2 (fun b => m (c, b))) (ix2 0 j)).trans (gain_apply _ j)

/-! ## The results -/

theorem W_main_v4 :
    Pipeline.afterTail₀ cfgs (dats m) 0 (V0 m) [hostOps1] c main_v4
      = res0 (m ((c.tc : Thread nD τ).loc main_arg0)) (m ((c.tc : Thread nD τ).loc main_arg1)) := by
  refine (tail4 _).trans ?_
  rw [through3, arr3]
  funext y
  idx_vars y
  pointwise []
  rw [nrow_eq m c y0 y1 _ (by simp only; omega)]
  rfl

theorem W_main_v5 :
    Pipeline.afterTail₀ cfgs (dats m) 0 (V0 m) [hostOps1] c main_v5
      = res1 (m ((c.tc : Thread nD τ).loc main_arg0)) (m ((c.tc : Thread nD τ).loc main_arg1)) (m ((c.tc : Thread nD τ).loc main_arg2)) := by
  refine (tail5 _).trans ?_
  rw [through4, arr4]
  funext y
  idx_vars y
  pointwise []
  rw [nrow_eq m c y0 y1 _ (by simp only; omega), grow_eq]
  rfl

theorem W_main_v6 :
    Pipeline.afterTail₀ cfgs (dats m) 0 (V0 m) [hostOps1] c main_v6
      = res2 (m ((c.tc : Thread nD τ).loc main_arg0)) (m ((c.tc : Thread nD τ).loc main_arg1)) (m ((c.tc : Thread nD τ).loc main_arg2)) := by
  refine (tail6 _).trans ?_
  rw [through5, arr5]
  funext y
  idx_vars y
  pointwise []
  rw [nrow_eq m c y0 y1 _ (by simp only; omega), grow_eq]
  rfl

/-- Every run of the reference's program ends with the three results at `res0`, `res1`, `res2` of its arguments, and the
    arguments unchanged. -/
theorem run : θ_run defs (onTc (τ := τ) (main (F := Ideal))) ⟨m, fun _ => 0, ρ⟩ (fun r => ∀ c : Dev nD,
      r.2.mem ((c.tc : Thread nD τ).loc main_v4) = res0 (m ((c.tc : Thread nD τ).loc main_arg0)) (m ((c.tc : Thread nD τ).loc main_arg1))
      ∧ r.2.mem ((c.tc : Thread nD τ).loc main_v5) = res1 (m ((c.tc : Thread nD τ).loc main_arg0)) (m ((c.tc : Thread nD τ).loc main_arg1)) (m ((c.tc : Thread nD τ).loc main_arg2))
      ∧ r.2.mem ((c.tc : Thread nD τ).loc main_v6) = res2 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (W_main_v4 m c),
     ((h.1 c).2 main_v5 (Pipeline.mem_restRefs_of main_v5 (by decide) (by decide))).trans (W_main_v5 m c),
     ((h.1 c).2 main_v6 (Pipeline.mem_restRefs_of main_v6 (by decide) (by decide))).trans (W_main_v6 m c), h.2 c⟩)
    (θ_run_and (run_main m ρ) (unchanged m ρ))

end Cert.ReferenceIdeal.Arr
end
-- ==== Proof.Values.lean ====
/- The value claim: kernel and reference end with the same three results. -/
module

public import proofs.«01_k».proof.Defs
public import proofs.«01_k».proof.Proof.Gamma
public import proofs.«01_k».proof.Proof.KernelRun
public import proofs.«01_k».proof.Proof.RefRun

@[expose] public section

set_option maxRecDepth 16384

noncomputable section

namespace Cert.Values

open Idealize.ShloMosaic Idealize.SL.Sem

section
variable {X R X' R' : Vec Ideal KernelIdeal.S10x2048x5120 .bf16} {G G' : Vec Ideal KernelIdeal.S5120 .bf16}

/-- The sums are the same. -/
theorem sums (e0 : X' = X) (e1 : R' = R) : ReferenceIdeal.Arr.res0 X' R' = KernelIdeal.Arr.res0 X R := by
  subst e0 e1
  rfl

/-- The codes are the same where the gain is finite. -/
theorem codes (hg : ∀ j, max (G (ix1 j) : EReal) (-(G (ix1 j) : EReal)) ≤ Ideal.ofBits .f32 0x7F7F0000#32)
    (e0 : X' = X) (e1 : R' = R) (e2 : G' = G) : ReferenceIdeal.Arr.res1 X' R' G' = KernelIdeal.Arr.res1 X R G := by
  subst e0 e1 e2
  exact funext fun y => (Row.code_eq (KernelIdeal.Arr.nr X' R' (y 0) (y 1)) (KernelIdeal.Arr.gain G') hg (y 2)).symm

/-- The scales are the same where the gain is finite. -/
theorem scales (hg : ∀ j, max (G (ix1 j) : EReal) (-(G (ix1 j) : EReal)) ≤ Ideal.ofBits .f32 0x7F7F0000#32)
    (e0 : X' = X) (e1 : R' = R) (e2 : G' = G) : ReferenceIdeal.Arr.res2 X' R' G' = KernelIdeal.Arr.res2 X R G := by
  subst e0 e1 e2
  exact funext fun y => (Row.scale_eq (KernelIdeal.Arr.nr X' R' (y 0) (y 1)) (KernelIdeal.Arr.gain G') hg (y 2)).symm
end

/-- From memories that agree on the arguments, the gain finite, the kernel's program and the reference's end with equal
    results, all three, and with their arguments unchanged. -/
theorem algebraic : Cert.algebraic_KernelIdeal_ReferenceIdeal_pre_gamma_finite := by
  intro m g m' g' hpre hagree
  refine ⟨_, _, _, KernelIdeal.Arr.run m g, θ_run_mono (ReferenceIdeal.Arr.run m' g') fun r h c => ?_⟩
  obtain ⟨e0, e1, e2⟩ := hagree c
  obtain ⟨h0, h1, h2, h3⟩ := h c
  exact ⟨h0.trans (sums e0 e1), h1.trans (codes (Gamma.bound _ _ _ (hpre c)) e0 e1 e2),
    h2.trans (scales (Gamma.bound _ _ _ (hpre c)) e0 e1 e2), h3⟩

end Cert.Values
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_finite
public import proofs.«01_k».proof.Proof.Values
public import Idealize.ShloMosaic.Adequacy
public import Idealize.ShloMosaic.Init

@[expose] public section

noncomputable section

namespace Cert.Proof

open Idealize.ShloMosaic Idealize.SL.Sem Cert.Kernel

/-- The claims: the three programs run and leave their arguments and every semaphore counter as they were; the kernel's one
    named constant stands for 1/5120; over the extended reals the kernel and the reference end with equal results, all three,
    where the gain is finite. -/
theorem claim : Cert.Claim := ⟨Cert.Kernel.Gen.facts, Cert.KernelIdeal.Gen.facts, Cert.ReferenceIdeal.Gen.facts, Cert.Pre_gamma_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  IdealRules.named_const.statement Cert.KernelIdeal.κ "inv_d" .f32 0x394CCCCD#32 ((1 / 5120 : ℝ) : EReal) rfl,
  Cert.Values.algebraic⟩

end Cert.Proof

end
